-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S256x4096 : Shape := ⟨2, ![256, 4096]⟩
abbrev S3x256x4096 : Shape := ⟨3, ![3, 256, 4096]⟩
abbrev S4x256x256 : Shape := ⟨3, ![4, 256, 256]⟩
abbrev S_ : Shape := ⟨0, ![]⟩
abbrev S3 : Shape := ⟨1, ![3]⟩
abbrev S4 : Shape := ⟨1, ![4]⟩
abbrev S1 : Shape := ⟨1, ![1]⟩
abbrev S1x256x4096 : Shape := ⟨3, ![1, 256, 4096]⟩
abbrev S256x256 : Shape := ⟨2, ![256, 256]⟩
abbrev S1x256x256 : Shape := ⟨3, ![1, 256, 256]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S1024x1024, .bf16⟩
  | .local _ .vmem, ⟨1, _⟩ => ⟨S256x4096, .f32⟩
  | .local _ .vmem, ⟨2, _⟩ => ⟨S256x4096, .bf16⟩
  | .local _ .vmem, ⟨3, _⟩ => ⟨S3x256x4096, .f32⟩
  | .local _ .vmem, ⟨4, _⟩ => ⟨S4x256x256, .fp8e4m3⟩
  | .local _ .vmem, ⟨5, _⟩ => ⟨S4x256x256, .fp8e4m3⟩
  | .local _ .vmem, ⟨6, _⟩ => ⟨S4x256x256, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v17 : BitVec 32 := Scalar.muli v9 c4_i32_10
  let v18 : BitVec 32 := Scalar.addi c0_i32 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v19 : BitVec 32 := Scalar.muli v5 c2_i32_11
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.muli v8 c1_i32_12
  let v22 : BitVec 32 := Scalar.addi v20 v21
  v22.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v23 : BitVec 32 := Scalar.muli v2 c4_i32_14
  let v24 : BitVec 32 := Scalar.addi c0_i32_15 v23
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_16 : BitVec 32 := 2#32
  let v25 : BitVec 32 := Scalar.muli v10 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v31 : BitVec 32 := Scalar.muli v5 c2_i32_21
  let v32 : BitVec 32 := Scalar.addi v30 v31
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_22 : BitVec 32 := 1#32
  let v33 : BitVec 32 := Scalar.muli v11 c1_i32_22
  let v34 : BitVec 32 := Scalar.addi v32 v33
  v34.toNat
def k0_dev4 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v35 : BitVec 32 := Scalar.muli v2 c4_i32_24
  let v36 : BitVec 32 := Scalar.addi c0_i32_25 v35
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_26 : BitVec 32 := 2#32
  let v37 : BitVec 32 := Scalar.muli v12 c2_i32_26
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_27 : BitVec 32 := 1#32
  let v39 : BitVec 32 := Scalar.muli v13 c1_i32_27
  let v40 : BitVec 32 := Scalar.addi v38 v39
  v40.toNat
def k0_off1 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32 : BitVec 32 := 256#32
  let v41 : BitVec 32 := Scalar.muli v15 c256_i32
  let c0_i32_28 : BitVec 32 := 0#32
  ![v41.toNat, 0]
def k0_dev5 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v82 : BitVec 32 := Scalar.muli v9 c4_i32_72
  let v83 : BitVec 32 := Scalar.addi c0_i32_73 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v84 : BitVec 32 := Scalar.muli v5 c2_i32_74
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v86 : BitVec 32 := Scalar.muli v8 c1_i32_75
  let v87 : BitVec 32 := Scalar.addi v85 v86
  v87.toNat
def k0_dev6 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v119 : BitVec 32 := Scalar.muli v9 c4_i32_106
  let v120 : BitVec 32 := Scalar.addi c0_i32_107 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v121 : BitVec 32 := Scalar.muli v5 c2_i32_108
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v123 : BitVec 32 := Scalar.muli v8 c1_i32_109
  let v124 : BitVec 32 := Scalar.addi v122 v123
  v124.toNat
def k0_off2 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_141 : BitVec 32 := 256#32
  let v157 : BitVec 32 := Scalar.muli v15 c256_i32_141
  let v158 : Index := Scalar.indexCast v157
  let c0_142 : Index := 0#32
  ![v158.toNat, 0]
def k0_off3 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_143 : BitVec 32 := 256#32
  let v160 : BitVec 32 := Scalar.muli v15 c256_i32_143
  let c0_i32_150 : BitVec 32 := 0#32
  ![v160.toNat, 0]
def k0_dev7 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v161 : BitVec 32 := Scalar.muli v2 c4_i32_146
  let v162 : BitVec 32 := Scalar.addi c0_i32_147 v161
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_148 : BitVec 32 := 2#32
  let v163 : BitVec 32 := Scalar.muli v10 c2_i32_148
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v165 : BitVec 32 := Scalar.muli v8 c1_i32_149
  let v166 : BitVec 32 := Scalar.addi v164 v165
  v166.toNat
def k0_dev8 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v174 : BitVec 32 := Scalar.muli v2 c4_i32_155
  let v175 : BitVec 32 := Scalar.addi c0_i32_156 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v176 : BitVec 32 := Scalar.muli v5 c2_i32_157
  let v177 : BitVec 32 := Scalar.addi v175 v176
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_158 : BitVec 32 := 1#32
  let v178 : BitVec 32 := Scalar.muli v11 c1_i32_158
  let v179 : BitVec 32 := Scalar.addi v177 v178
  v179.toNat
def k0_dev9 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v187 : BitVec 32 := Scalar.muli v2 c4_i32_164
  let v188 : BitVec 32 := Scalar.addi c0_i32_165 v187
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_166 : BitVec 32 := 2#32
  let v189 : BitVec 32 := Scalar.muli v12 c2_i32_166
  let v190 : BitVec 32 := Scalar.addi v188 v189
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_167 : BitVec 32 := 1#32
  let v191 : BitVec 32 := Scalar.muli v13 c1_i32_167
  let v192 : BitVec 32 := Scalar.addi v190 v191
  v192.toNat
def k0_dev10 (d0 : Dev nD) : Nat :=
  let c0_i32_192 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_191 : BitVec 32 := 4#32
  let v217 : BitVec 32 := Scalar.muli v9 c4_i32_191
  let v218 : BitVec 32 := Scalar.addi c0_i32_192 v217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v219 : BitVec 32 := Scalar.muli v5 c2_i32_193
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v221 : BitVec 32 := Scalar.muli v8 c1_i32_194
  let v222 : BitVec 32 := Scalar.addi v220 v221
  v222.toNat
def k0_off4 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_226 : BitVec 32 := 256#32
  let v255 : BitVec 32 := Scalar.muli v15 c256_i32_226
  let v256 : Index := Scalar.indexCast v255
  let c256 : Index := 256#32
  ![v256.toNat, 256]
def k0_off5 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_227 : BitVec 32 := 256#32
  let v258 : BitVec 32 := Scalar.muli v15 c256_i32_227
  let c256_i32_234 : BitVec 32 := 256#32
  ![v258.toNat, 256]
def k0_dev11 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v259 : BitVec 32 := Scalar.muli v2 c4_i32_230
  let v260 : BitVec 32 := Scalar.addi c0_i32_231 v259
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_232 : BitVec 32 := 2#32
  let v261 : BitVec 32 := Scalar.muli v10 c2_i32_232
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v263 : BitVec 32 := Scalar.muli v8 c1_i32_233
  let v264 : BitVec 32 := Scalar.addi v262 v263
  v264.toNat
def k0_dev12 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v272 : BitVec 32 := Scalar.muli v2 c4_i32_239
  let v273 : BitVec 32 := Scalar.addi c0_i32_240 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v274 : BitVec 32 := Scalar.muli v5 c2_i32_241
  let v275 : BitVec 32 := Scalar.addi v273 v274
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_242 : BitVec 32 := 1#32
  let v276 : BitVec 32 := Scalar.muli v11 c1_i32_242
  let v277 : BitVec 32 := Scalar.addi v275 v276
  v277.toNat
def k0_dev13 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v285 : BitVec 32 := Scalar.muli v2 c4_i32_248
  let v286 : BitVec 32 := Scalar.addi c0_i32_249 v285
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_250 : BitVec 32 := 2#32
  let v287 : BitVec 32 := Scalar.muli v12 c2_i32_250
  let v288 : BitVec 32 := Scalar.addi v286 v287
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_251 : BitVec 32 := 1#32
  let v289 : BitVec 32 := Scalar.muli v13 c1_i32_251
  let v290 : BitVec 32 := Scalar.addi v288 v289
  v290.toNat
def k0_dev14 (d0 : Dev nD) : Nat :=
  let c0_i32_275 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_274 : BitVec 32 := 4#32
  let v315 : BitVec 32 := Scalar.muli v9 c4_i32_274
  let v316 : BitVec 32 := Scalar.addi c0_i32_275 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v317 : BitVec 32 := Scalar.muli v5 c2_i32_276
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v319 : BitVec 32 := Scalar.muli v8 c1_i32_277
  let v320 : BitVec 32 := Scalar.addi v318 v319
  v320.toNat
def k0_off6 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_309 : BitVec 32 := 256#32
  let v353 : BitVec 32 := Scalar.muli v15 c256_i32_309
  let v354 : Index := Scalar.indexCast v353
  let c512 : Index := 512#32
  ![v354.toNat, 512]
def k0_off7 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_310 : BitVec 32 := 256#32
  let v356 : BitVec 32 := Scalar.muli v15 c256_i32_310
  let c512_i32_317 : BitVec 32 := 512#32
  ![v356.toNat, 512]
def k0_dev15 (d0 : Dev nD) : Nat :=
  let c0_i32_314 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_313 : BitVec 32 := 4#32
  let v357 : BitVec 32 := Scalar.muli v2 c4_i32_313
  let v358 : BitVec 32 := Scalar.addi c0_i32_314 v357
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_315 : BitVec 32 := 2#32
  let v359 : BitVec 32 := Scalar.muli v10 c2_i32_315
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_316 : BitVec 32 := 1#32
  let v361 : BitVec 32 := Scalar.muli v8 c1_i32_316
  let v362 : BitVec 32 := Scalar.addi v360 v361
  v362.toNat
def k0_dev16 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v370 : BitVec 32 := Scalar.muli v2 c4_i32_322
  let v371 : BitVec 32 := Scalar.addi c0_i32_323 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v372 : BitVec 32 := Scalar.muli v5 c2_i32_324
  let v373 : BitVec 32 := Scalar.addi v371 v372
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_325 : BitVec 32 := 1#32
  let v374 : BitVec 32 := Scalar.muli v11 c1_i32_325
  let v375 : BitVec 32 := Scalar.addi v373 v374
  v375.toNat
def k0_dev17 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_331 : BitVec 32 := 4#32
  let v383 : BitVec 32 := Scalar.muli v2 c4_i32_331
  let v384 : BitVec 32 := Scalar.addi c0_i32_332 v383
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_333 : BitVec 32 := 2#32
  let v385 : BitVec 32 := Scalar.muli v12 c2_i32_333
  let v386 : BitVec 32 := Scalar.addi v384 v385
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_334 : BitVec 32 := 1#32
  let v387 : BitVec 32 := Scalar.muli v13 c1_i32_334
  let v388 : BitVec 32 := Scalar.addi v386 v387
  v388.toNat
def k0_off8 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_364 : BitVec 32 := 256#32
  let v419 : BitVec 32 := Scalar.muli v15 c256_i32_364
  let v420 : Index := Scalar.indexCast v419
  let c768 : Index := 768#32
  ![v420.toNat, 768]
def k0_off9 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.addi v14 v8
  let c256_i32_365 : BitVec 32 := 256#32
  let v422 : BitVec 32 := Scalar.muli v15 c256_i32_365
  let c768_i32_372 : BitVec 32 := 768#32
  ![v422.toNat, 768]
def k0_dev18 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v423 : BitVec 32 := Scalar.muli v2 c4_i32_368
  let v424 : BitVec 32 := Scalar.addi c0_i32_369 v423
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_370 : BitVec 32 := 2#32
  let v425 : BitVec 32 := Scalar.muli v10 c2_i32_370
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v427 : BitVec 32 := Scalar.muli v8 c1_i32_371
  let v428 : BitVec 32 := Scalar.addi v426 v427
  v428.toNat
def k0_dev19 (d0 : Dev nD) : Nat :=
  let c0_i32_378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_377 : BitVec 32 := 4#32
  let v436 : BitVec 32 := Scalar.muli v2 c4_i32_377
  let v437 : BitVec 32 := Scalar.addi c0_i32_378 v436
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_379 : BitVec 32 := 2#32
  let v438 : BitVec 32 := Scalar.muli v5 c2_i32_379
  let v439 : BitVec 32 := Scalar.addi v437 v438
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_380 : BitVec 32 := 1#32
  let v440 : BitVec 32 := Scalar.muli v11 c1_i32_380
  let v441 : BitVec 32 := Scalar.addi v439 v440
  v441.toNat
def k0_dev20 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_386 : BitVec 32 := 4#32
  let v449 : BitVec 32 := Scalar.muli v2 c4_i32_386
  let v450 : BitVec 32 := Scalar.addi c0_i32_387 v449
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_388 : BitVec 32 := 2#32
  let v451 : BitVec 32 := Scalar.muli v12 c2_i32_388
  let v452 : BitVec 32 := Scalar.addi v450 v451
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_389 : BitVec 32 := 1#32
  let v453 : BitVec 32 := Scalar.muli v13 c1_i32_389
  let v454 : BitVec 32 := Scalar.addi v452 v453
  v454.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | .hbm, ⟨4, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Cells.lean ====
/-
The eight devices as the kernel sees them: which device is whose peer, the pieces of the buffers the transfers
name, the semaphores they complete on, what each piece holds, and the one-round schedule of payments on the
semaphores that devices share.

A device is (x, y, z) = (c / 4, c / 2 % 2, c % 2). Peer 0 differs in x, peer 1 in y, peer 2 in z, peer 3 in both y
and z. Peer 0 trades partial products; peers 1, 2 and 3 receive the finished block of rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref
public import Idealize.ShloMosaic.Lib.ViewIndex

@[expose] public section

set_option maxRecDepth 16384

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the devices' rounds, the local transfers' counters -/

/-- The resource of the schedule of rounds on the devices' shared semaphores. -/
abbrev UB : Type := URounds (GSem nD τ sig) (Fin 4)
/-- All the ghost state: the pipeline's rounds, the devices' rounds, the local copies' counters. -/
abbrev UU : Type := UR sig nD τ × (UB × Counters)

local notation "𝕄" => MT nD τ sig Unit (Elt F) ℕ UU ℕ

/-- Where the pipeline's rounds lie in it. -/
abbrev EP : Emb (UR sig nD τ) (MT nD τ sig Unit (Elt F) ℕ UU ℕ) := embL
/-- Where the devices' rounds lie in it. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The devices' rounds are part of the ghost state that invariants may hold. -/
instance ER_landsIn : (ER (F := F)).LandsIn (upEmb : UEmb _ 𝕄) := by unfold ER; infer_instance
/-- Where the local copies' counters lie in it. -/
abbrev EC : UEmb Counters (MT nD τ sig Unit (Elt F) ℕ UU ℕ) := countersEmb

/-- No loop of the body needs a measure. -/
abbrev 𝒱₀ : Variants := Variants.none

/-! ## Peers -/

set_option backward.proofsInPublic true in
/-- The peer of device `c` across direction `j`: its x, its y, its z, or its y and z together changed. -/
def peer (j : Fin 4) (c : Dev nD) : Dev nD := match j with
  | 0 => ⟨(c.val + 4) % 8, Nat.mod_lt _ (by decide)⟩
  | 1 => ⟨4 * (c.val / 4) + (c.val + 2) % 4, by have : c.val < 8 := c.isLt; show _ < 8; omega⟩
  | 2 => ⟨2 * (c.val / 2) + (c.val + 1) % 2, by have : c.val < 8 := c.isLt; show _ < 8; omega⟩
  | 3 => ⟨4 * (c.val / 4) + (3 - c.val % 4), by have : c.val < 8 := c.isLt; show _ < 8; omega⟩

/-- Taking the same peer twice comes back. -/
theorem peer_peer (j : Fin 4) (c : Dev nD) : peer j (peer j c) = c := by revert j c; decide
/-- Different devices have different peers. -/
theorem peer_inj (j : Fin 4) {a b : Dev nD} (h : peer j a = peer j b) : a = b := by
  rw [← peer_peer j a, h, peer_peer]

/-- Taking the peer across `j` is its own inverse. -/
def peerE (j : Fin 4) : Dev nD ≃ Dev nD := ⟨peer j, peer j, peer_peer j, peer_peer j⟩

set_option backward.proofsInPublic true in
/-- The block of rows a device works out: 256 rows starting at 256 times its place in its plane of four. -/
def quad (c : Dev nD) : Fin 4 := ⟨c.val % 4, Nat.mod_lt _ (by decide)⟩

/-- The rows of the first argument that a device copies are the 256 of its place. -/
theorem off1_eq (c : Dev nD) : k0_off1 c = ![256 * (quad c).val, 0] := by revert c; decide +kernel

/-- The target of the first barrier signal is the peer across x, -/
theorem dev1_eq (c : Dev nD) : (⟨k0_dev1 c, k0_dev1_lt c⟩ : Dev nD) = peer 0 c := by revert c; decide +kernel
/-- of the second the peer across y, -/
theorem dev2_eq (c : Dev nD) : (⟨k0_dev2 c, k0_dev2_lt c⟩ : Dev nD) = peer 1 c := by revert c; decide +kernel
/-- of the third the peer across z, -/
theorem dev3_eq (c : Dev nD) : (⟨k0_dev3 c, k0_dev3_lt c⟩ : Dev nD) = peer 2 c := by revert c; decide +kernel
/-- of the fourth the peer across y and z. -/
theorem dev4_eq (c : Dev nD) : (⟨k0_dev4 c, k0_dev4_lt c⟩ : Dev nD) = peer 3 c := by revert c; decide +kernel

/-! ## Pieces of the buffers -/

/-- The first argument. -/
abbrev xM : Memref sig .tc .hbm S1024x4096 .f32 := Memref.whole main_arg0
/-- The second argument. -/
abbrev yM : Memref sig .tc .hbm S1024x4096 .f32 := Memref.whole main_arg1
/-- The buffer of the result. -/
abbrev oM : Memref sig .tc .vmem S1024x1024 .bf16 := Memref.whole cc0_stg0_0
/-- The device's rows of the first argument as copied. -/
abbrev dyM : Memref sig .tc .vmem S256x4096 .f32 := Memref.whole cc0_scratch0
/-- The same rows rounded to bfloat16. -/
abbrev aM : Memref sig .tc .vmem S256x4096 .bf16 := Memref.whole cc0_scratch1
/-- The three slots for row blocks of the second argument. -/
abbrev wM : Memref sig .tc .vmem S3x256x4096 .f32 := Memref.whole cc0_scratch2
/-- The partial products to be sent. -/
abbrev psM : Memref sig .tc .vmem S4x256x256 .fp8e4m3 := Memref.whole cc0_scratch3
/-- The partial products received. -/
abbrev prM : Memref sig .tc .vmem S4x256x256 .fp8e4m3 := Memref.whole cc0_scratch4
/-- The partial products kept. -/
abbrev pbM : Memref sig .tc .vmem S4x256x256 .bf16 := Memref.whole cc0_scratch5

/-- A slot of four lies in its buffer. -/
theorem slot_inb (k : Fin 4) : ∀ a, (![k.val, 0, 0] : Fin 3 → Nat) a + S1x256x256.size a ≤ S4x256x256.size a := by revert k; decide
/-- A slot of three lies in its buffer. -/
theorem wslot_inb (k : Fin 3) : ∀ a, (![k.val, 0, 0] : Fin 3 → Nat) a + S1x256x4096.size a ≤ S3x256x4096.size a := by revert k; decide
/-- A block of 256 rows lies in an argument. -/
theorem rows_inb (k : Fin 4) : ∀ a, (![256 * k.val, 0] : Fin 2 → Nat) a + S256x4096.size a ≤ S1024x4096.size a := by revert k; decide
/-- A block of the result lies in it. -/
theorem out_inb (q k : Fin 4) : ∀ a, (![256 * q.val, 256 * k.val] : Fin 2 → Nat) a + S256x256.size a ≤ S1024x1024.size a := by revert q k; decide
/-- A chunk's semaphore lies in its array of four. -/
theorem sem_inb (k : Fin 4) : ∀ a, (![k.val] : Fin 1 → Nat) a + S1.size a ≤ S4.size a := by revert k; decide
/-- A slot's semaphore lies in its array of three. -/
theorem wsem_inb (k : Fin 3) : ∀ a, (![k.val] : Fin 1 → Nat) a + S1.size a ≤ S3.size a := by revert k; decide

/-- Slot `k` of a buffer of four blocks. -/
abbrev slotR (k : Fin 4) : Rect S4x256x256 := Rect.unit (s := S4x256x256) ![k.val, 0, 0] S1x256x256.size (slot_inb k)
/-- Slot `k` of the buffer of three row blocks of `W`. -/
abbrev wslotR (k : Fin 3) : Rect S3x256x4096 := Rect.unit (s := S3x256x4096) ![k.val, 0, 0] S1x256x4096.size (wslot_inb k)
/-- The `k`-th 256 rows of an argument. -/
abbrev rowsR (k : Fin 4) : Rect S1024x4096 := Rect.unit (s := S1024x4096) ![256 * k.val, 0] S256x4096.size (rows_inb k)
/-- The block of the result at block row `q`, block column `k`. -/
abbrev outR (q k : Fin 4) : Rect S1024x1024 := Rect.unit (s := S1024x1024) ![256 * q.val, 256 * k.val] S256x256.size (out_inb q k)

/-- Slot `k` of the partial products to be sent, -/
abbrev psS (k : Fin 4) : Memref sig .tc .vmem S1x256x256 .fp8e4m3 := psM.slice (slotR k) (fun _ => rfl)
/-- of those received, -/
abbrev prS (k : Fin 4) : Memref sig .tc .vmem S1x256x256 .fp8e4m3 := prM.slice (slotR k) (fun _ => rfl)
/-- of those kept, -/
abbrev pbS (k : Fin 4) : Memref sig .tc .vmem S1x256x256 .bf16 := pbM.slice (slotR k) (fun _ => rfl)
/-- of the row blocks of the second argument. -/
abbrev wS (k : Fin 3) : Memref sig .tc .vmem S1x256x4096 .f32 := wM.slice (wslotR k) (fun _ => rfl)
/-- The `k`-th block of rows of the first argument, -/
abbrev xR (k : Fin 4) : Memref sig .tc .hbm S256x4096 .f32 := xM.slice (rowsR k) (fun _ => rfl)
/-- of the second. -/
abbrev yR (k : Fin 4) : Memref sig .tc .hbm S256x4096 .f32 := yM.slice (rowsR k) (fun _ => rfl)
/-- The block of the result at block row `q` and block column `k`. -/
abbrev oB (q k : Fin 4) : Memref sig .tc .vmem S256x256 .bf16 := oM.slice (outR q k) (fun _ => rfl)

/-! ## Semaphores -/

/-- The runtime's barrier semaphore. -/
abbrev barS : Sem sig := (SemArray.scalar (sig.barrier 0 rfl) : Sems sig S_).sem

/-- The send (`false`) and receive (`true`) semaphores towards peer `j`, one per chunk. -/
abbrev semArr (j : Fin 4) (r : Bool) : DmaSems sig S4 := match j, r with
  | 0, false => cc0_scratch8 | 0, true => cc0_scratch9
  | 1, false => cc0_scratch10 | 1, true => cc0_scratch11
  | 2, false => cc0_scratch12 | 2, true => cc0_scratch13
  | 3, false => cc0_scratch14 | 3, true => cc0_scratch15

/-- The semaphore of the transfers towards peer `j` on side `r` at chunk `k`. -/
abbrev dsem (j : Fin 4) (r : Bool) (k : Fin 4) : DmaSem sig :=
  (((semArr j r).slice (Rect.unit (s := S4) ![k.val] S1.size (sem_inb k))).squeeze S_ squeezes_S1_S_ : DmaSems sig S_).sem

/-- The semaphore of the local copies into slot `k` of the `W` buffer. -/
abbrev wsem (k : Fin 3) : DmaSem sig :=
  (((cc0_scratch7 : DmaSems sig S3).slice (Rect.unit (s := S3) ![k.val] S1.size (wsem_inb k))).squeeze S_ squeezes_S1_S_ : DmaSems sig S_).sem

/-- The number of a transfer's semaphore. -/
theorem dsem_val (j : Fin 4) (r : Bool) (k : Fin 4) : (dsem j r k).val = 5 + 8 * j.val + 4 * r.toNat + k.val := by
  revert j r k; decide +kernel
/-- The number of a local copy's semaphore. -/
theorem wsem_val (k : Fin 3) : (wsem k).val = 2 + k.val := by revert k; decide +kernel

/-- The shared semaphores of one device: the barrier, and the 32 of the transfers between devices. -/
abbrev CI : Type := Option (Fin 4 × Bool × Fin 4)
/-- The semaphore that an index of `CI` names. -/
def csem : CI → SemLoc sig
  | none => .reg barS
  | some (j, r, k) => .dma (dsem j r k)

/-- Different indices name different semaphores. -/
theorem csem_inj : Function.Injective csem := by
  rintro (_ | ⟨j, r, k⟩) (_ | ⟨j', r', k'⟩) h
  · rfl
  · cases h
  · cases h
  · have h' : dsem j r k = dsem j' r' k' := by unfold csem at h; exact SemLoc.dma.inj h
    have hv := congrArg Fin.val h'
    rw [dsem_val, dsem_val] at hv
    have := k.isLt; have := k'.isLt
    have hr : r = r' := by
      cases r <;> cases r' <;> first | rfl | (simp only [Bool.toNat_false, Bool.toNat_true] at hv; omega)
    subst hr
    have hj : j = j' := Fin.ext (by omega)
    subst hj
    have hk : k = k' := Fin.ext (by omega)
    subst hk; rfl

/-- The shared semaphore `i` of device `c`. -/
abbrev kcell (ci : Dev nD × CI) : GSem nD τ sig := ((ci.1 : Thread nD τ), csem ci.2)

/-- Different devices and indices give different cells. -/
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

open Classical in
/-- Which shared semaphore a semaphore is, if any. -/
def which (sm : SemLoc sig) : Option CI := if h : ∃ i, csem i = sm then some h.choose else none

/-- The index found for a named semaphore is its own. -/
theorem which_csem (i : CI) : which (csem i) = some i := by
  unfold which
  have h : ∃ i', csem i' = csem i := ⟨i, rfl⟩
  rw [dif_pos h]
  exact congrArg some (csem_inj h.choose_spec)

/-- No index is found for a semaphore that none names. -/
theorem which_none {sm : SemLoc sig} (h : ∀ i, csem i ≠ sm) : which sm = none := by
  unfold which; exact dif_neg fun ⟨i, hi⟩ => h i hi

/-! ## What the pieces hold -/

section Values
variable (m : (ℓ : Loc nD τ sig) → Buf (Elt F) ℓ)

/-- Device `c`'s block of the first argument, and of the second. -/
def xA (c : Dev nD) : S1024x4096.Idx → Elt F .f32 := m ((c : Thread nD τ).loc main_arg0)
/-- The second argument on device `c`. -/
def yA (c : Dev nD) : S1024x4096.Idx → Elt F .f32 := m ((c : Thread nD τ).loc main_arg1)

/-- Block `k` of 256 rows of each. -/
def xRows (c : Dev nD) (k : Fin 4) : S256x4096.Idx → Elt F .f32 := fun j => xA m c ((rowsR k).emb j)
/-- Block `k` of 256 rows of the second argument. -/
def yRows (c : Dev nD) (k : Fin 4) : S256x4096.Idx → Elt F .f32 := fun j => yA m c ((rowsR k).emb j)

/-- Block `k` of 256 rows of `W` as a slot of the `W` buffer holds it. -/
def wVal (c : Dev nD) (k : Fin 4) : S1x256x4096.Idx → Elt F .f32 :=
  fun j => yRows m c k ((Shape.reshapeEquiv squeezes_S1x256x4096_S256x4096.numel_eq).symm j)

/-- The device's rows of the first argument, rounded once for all its products. -/
def aVal (c : Dev nD) : S256x4096.Idx → Elt F .bf16 := k0_pay1 (xRows m c (quad c))

/-- Its partial product at chunk `k`, as sent to its peer across x and as kept. -/
def psVal (c : Dev nD) (k : Fin 4) : S1x256x256.Idx → Elt F .fp8e4m3 := k0_pay3 (aVal m c) (wVal m c k)
/-- The partial product at chunk `k` as kept. -/
def pbVal (c : Dev nD) (k : Fin 4) : S1x256x256.Idx → Elt F .bf16 := k0_pay4 (aVal m c) (wVal m c k)

/-- Its finished block of the result at chunk `k`: what it kept and what came across x. -/
def outVal (c : Dev nD) (k : Fin 4) : S256x256.Idx → Elt F .bf16 := k0_pay9 (pbVal m c k) (psVal m (peer 0 c) k)

end Values

/-! ## The schedule -/

/-- What a transfer of a partial product pays, -/
abbrev NA : ℕ := ((prS 0).squeeze S256x256 squeezes_S1x256x256_S256x256).view.dmaCredit
/-- and one of a finished block. -/
abbrev NB : ℕ := (oB 0 0).view.dmaCredit

/-- The units one payment on a shared semaphore brings. -/
def amt : CI → ℕ
  | none => 1
  | some (0, _, _) => NA
  | some (_, _, _) => NB

/-- A transfer of a partial product pays something, -/
theorem NA_pos : 0 < NA := View.dmaCredit_pos _ (by decide)
/-- and so does one of a finished block. -/
theorem NB_pos : 0 < NB := View.dmaCredit_pos _ (by decide)
/-- Every payment is of something. -/
theorem amt_pos (i : CI) : 0 < amt i := by
  unfold amt; split
  · exact Nat.one_pos
  · exact NA_pos
  · exact NB_pos

/-- The share of its finished block a device lends to the copy towards peer `j`. -/
def shr (j : Fin 4) : PosShare TreeShare := match j with
  | 1 => fullShare.left
  | 2 => fullShare.right.left
  | _ => fullShare.right.right

section Sched
variable (m : (ℓ : Loc nD τ sig) → Buf (Elt F) ℓ)

/-- What the payment `d` on device `c`'s shared semaphore `i` hands it.

On the barrier, peer `d` hands over the place that `c` will write on it: for peer 0 the four landing slots, for the
others the four blocks of its result that `c` works out. A send semaphore gives back what was lent to the copy; a
receive semaphore hands over the block that arrived. -/
def pay (c : Dev nD) (i : CI) (d : Fin 4) : sProp 𝕄 := match i with
  | none => match d with
    | 0 => bigSep Finset.univ fun k : Fin 4 => iprop(∃ X, owns (peer 0 c : Thread nD τ) (prS k) fullShare X)
    | d => bigSep Finset.univ fun k : Fin 4 => iprop(∃ X, owns (peer d c : Thread nD τ) (oB (quad c) k) fullShare X)
  | some (0, false, k) => owns (c : Thread nD τ) (psS k) fullShare (psVal m c k)
  | some (0, true, k) => owns (c : Thread nD τ) (prS k) fullShare (psVal m (peer 0 c) k)
  | some (j, false, k) => owns (c : Thread nD τ) (oB (quad c) k) (shr j) (outVal m c k)
  | some (j, true, k) => owns (c : Thread nD τ) (oB (quad (peer j c)) k) fullShare (outVal m (peer j c) k)

/-- What a payment carries can be kept in an invariant. -/
instance pay_storable (c : Dev nD) (i : CI) (d : Fin 4) : BI.Storable (upEmb : UEmb _ 𝕄) (pay m c i d) := by
  unfold pay; (repeat' split) <;> infer_instance

/-- The payments due on a shared semaphore in its one round: four on the barrier, one on each of the others. -/
def dut : CI → Finset (Fin 4)
  | none => Finset.univ
  | some _ => {0}

/-- The schedule: one round on each shared semaphore, with these payers, amounts and payloads. -/
def Rd : Rounds.Schedule (GSem nD τ sig) (Fin 4) 𝕄 where
  duties g r := if r = 0 then (match which g.2 with | some i => dut i | none => ∅) else ∅
  unitless _ := False
  amount g _ _ := match which g.2 with | some i => amt i | none => 1
  payload g _ d := match which g.2 with | some i => pay m g.1.1 i d | none => iprop(emp)
  amount_pos g _ _ _ := by
    split
    · exact amt_pos _
    · exact Nat.one_pos

/-- Every payload of the schedule can be kept in an invariant. -/
instance Rd_storable (g : GSem nD τ sig) (r : ℕ) (d : Fin 4) : BI.Storable (upEmb : UEmb _ 𝕄) ((Rd (F := F) m).payload g r d) := by
  show BI.Storable upEmb (match which g.2 with | some i => pay m g.1.1 i d | none => iprop(emp))
  split <;> infer_instance

/-- Who pays in a semaphore's round. -/
theorem Rd_duties (c : Dev nD) (i : CI) : (Rd (F := F) m).duties (kcell (c, i)) 0 = dut i := by
  show (if (0 : ℕ) = 0 then (match which (csem i) with | some i => dut i | none => ∅) else ∅) = _
  rw [if_pos rfl, which_csem]
/-- Nobody pays after the first round. -/
theorem Rd_later (g : GSem nD τ sig) : ∀ r, 1 ≤ r → (Rd (F := F) m).duties g r = ∅ :=
  fun r hr => by dsimp only [Rd]; rw [if_neg fun h => by omega]
/-- How much each payer pays. -/
theorem Rd_amount (c : Dev nD) (i : CI) (d : Fin 4) : (Rd (F := F) m).amount (kcell (c, i)) 0 d = amt i := by
  show (match which (csem i) with | some i => amt i | none => 1) = _
  rw [which_csem]
/-- What each payment carries. -/
theorem Rd_payload (c : Dev nD) (i : CI) (d : Fin 4) : (Rd (F := F) m).payload (kcell (c, i)) 0 d = pay m c i d := by
  show (match which (csem i) with | some i => pay m c i d | none => iprop(emp)) = _
  rw [which_csem]

/-- The units a device waits for on its shared semaphore `i`. -/
def tot : CI → ℕ
  | none => 4
  | some x => amt (some x)

/-- How much a round's payments make together. -/
theorem Rd_expect (c : Dev nD) (i : CI) : (Rd (F := F) m).expect (kcell (c, i)) 0 = tot i := by
  unfold Schedule.expect Schedule.amountOf
  rw [Rd_duties, Finset.sum_congr rfl fun d _ => Rd_amount m c i d]
  cases i with
  | none => decide
  | some x => exact Finset.sum_singleton _ _

/-- All that a device's wait on its shared semaphore `i` hands it. -/
def got (c : Dev nD) (i : CI) : sProp 𝕄 := match i with
  | none => iprop(pay m c none 0 ∗ pay m c none 1 ∗ pay m c none 2 ∗ pay m c none 3)
  | some x => pay m c (some x) 0

/-- What the payments of a round carry together, none of them taken yet. -/
theorem Rd_rest (c : Dev nD) (i : CI) :
    bigSep ((Rd (F := F) m).duties (kcell (c, i)) 0 \ ∅) (fun d => (Rd (F := F) m).payload (kcell (c, i)) 0 d) = got m c i := by
  rw [Finset.sdiff_empty, Rd_duties, bigSep_congr fun d _ => Rd_payload m c i d]
  cases i with
  | none => exact bigSep_univ_eq_bigSepL [0, 1, 2, 3] (by decide) (by decide) _
  | some x => exact bigSep_singleton

end Sched

/-! ## What a device owes, in program order, and the levels -/

/-- The payments a device makes in order: to which peer, on which of that peer's shared semaphores. -/
def pays : List (Fin 4 × CI) :=
  [(0, none), (1, none), (2, none), (3, none),
   (0, some (0, true, 0)), (0, some (0, true, 1)),
   (1, some (1, true, 0)), (2, some (2, true, 0)), (3, some (3, true, 0)),
   (0, some (0, true, 2)),
   (1, some (1, true, 1)), (2, some (2, true, 1)), (3, some (3, true, 1)),
   (0, some (0, true, 3)),
   (1, some (1, true, 2)), (2, some (2, true, 2)), (3, some (3, true, 2)),
   (1, some (1, true, 3)), (2, some (2, true, 3)), (3, some (3, true, 3))]

/-- What device `c` owes when the payments `xs` are still to be made. -/
def oweL (c : Dev nD) : List (Fin 4 × CI) → CellTallies nD τ sig Unit
  | [] => 0
  | x :: xs => oweL c xs + tallyAt (kcell (peer x.1 c, x.2)) () (amt x.2)

/-- The levels of a semaphore: one on a core that computes, none elsewhere. -/
def L (g : GSem nD τ sig) : Finset Unit := if g.1.2 = .tc then {()} else ∅

/-- The level of a shared semaphore: the barrier first, then the blocks across x chunk by chunk, then the finished
blocks; what is paid by the device's own copies is below all. -/
def clv : CI → ℕ
  | none => 1
  | some (_, false, _) => 0
  | some (0, true, k) => 2 + k.val
  | some (_, true, _) => 10

/-- The level at which a device waits on a semaphore. -/
def lv (g : GSem nD τ sig) (_ : Unit) : ℕ := match which g.2 with | some i => clv i | none => 0

/-- A thread of another kind has no level. -/
theorem L_of_ne (g : GSem nD τ sig) (h : g.1.2 ≠ .tc) : L g = ∅ := if_neg h
/-- A core that computes has one. -/
theorem L_tc (c : Dev nD) (sm : SemLoc sig) : L ((c : Thread nD τ), sm) = {()} := if_pos rfl
/-- The level of a shared semaphore's cell is its index's. -/
theorem lv_kcell (c : Dev nD) (i : CI) : lv (kcell (c, i)) () = clv i := by
  show (match which (csem i) with | some i => clv i | none => 0) = _
  rw [which_csem]

/-- A semaphore something is owed on is one of the list. -/
theorem oweL_pos {c : Dev nD} {g : GSem nD τ sig} {u : Unit} : ∀ {xs : List (Fin 4 × CI)}, 0 < oweL c xs g u →
    ∃ x ∈ xs, g = kcell (peer x.1 c, x.2)
  | [], h => absurd h (Nat.lt_irrefl 0)
  | x :: xs, h => by
    unfold oweL at h
    rw [Pi.add_apply, Finsupp.add_apply, tallyAt_apply] at h
    by_cases hg : g = kcell (peer x.1 c, x.2) ∧ u = ()
    · exact ⟨x, List.mem_cons_self, hg.1⟩
    · rw [if_neg hg, Nat.add_zero] at h
      obtain ⟨y, hy, e⟩ := oweL_pos h
      exact ⟨y, List.mem_cons_of_mem _ hy, e⟩

/-- A device may wait on a semaphore below all it still owes. -/
theorem mayWait_lt (c : Dev nD) (sm : SemLoc sig) (n : ℕ) (hn : lv ((c : Thread nD τ), sm) () = n) (xs : List (Fin 4 × CI))
    (h : ∀ x ∈ xs, n < clv x.2) : (levAts L lv : sProp 𝕄) ⊢ MayWait (c : Thread nD τ) sm () (oweL c xs) :=
  MayOwe.of_cut (L := L) (lev := lv) n
    (fun p hp => by rw [Finset.mem_singleton.mp hp, L_tc]; exact Finset.mem_singleton_self _)
    (fun g u hg => by obtain ⟨x, -, rfl⟩ := oweL_pos hg; exact Finset.mem_singleton_self _)
    (fun p hp => by rw [Finset.mem_singleton.mp hp]; exact hn.le)
    (fun g u hg => by obtain ⟨x, hx, rfl⟩ := oweL_pos hg; rw [lv_kcell]; exact h x hx)

end Cert.GatherProof

end
-- ==== Proof.Steps.lean ====
/-
One rule per kind of operation the kernel performs, stated over the pieces of `Cells`: loads and stores of a piece,
copies of `W` into a slot, a signal of the barrier, a send to a peer, a wait on a shared semaphore.
-/
module

public import proofs.«01_k».proof.Proof.Cells

@[expose] public section

set_option maxRecDepth 16384

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rest of device `c`'s body: what must hold for it to run on to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Pieces read and written -/

section Pieces
variable (c : Dev nD) {sp sp' : Space} {cs : CoreSpace} {s s' : Shape} {e : EltTy} {q : PosShare TreeShare}

/-- A piece, with an axis of size one dropped: the same elements, re-indexed. -/
theorem owns_squeeze (M : Memref sig .tc sp s e) (h : s.Squeezes s') (X : s.Idx → Elt F e) :
    (owns (c : Thread nD τ) M q X : sProp 𝕄) ⊢ owns (c : Thread nD τ) (M.squeeze s' h) q (fun j => X (Shape.reshapeEquiv h.numel_eq j)) := by
  unfold owns
  iintro ⟨%f, %hf, H⟩
  iexists f
  isplitr
  · ipureintro; subst hf; rfl
  · rw [show (M.squeeze s' h).view.set = M.view.set from View.set_reshape (v := M.view) h.numel_eq]
    iexact H

/-- And back. -/
theorem owns_unsqueeze (M : Memref sig .tc sp s e) (h : s.Squeezes s') (X : s'.Idx → Elt F e) :
    (owns (c : Thread nD τ) (M.squeeze s' h) q X : sProp 𝕄) ⊢ owns (c : Thread nD τ) M q (fun j => X ((Shape.reshapeEquiv h.numel_eq).symm j)) := by
  unfold owns
  iintro ⟨%f, %hf, H⟩
  iexists f
  isplitr
  · ipureintro; subst hf; funext j
    show _ = M.view.read (Elt F) f (Shape.reshapeEquiv h.numel_eq ((Shape.reshapeEquiv h.numel_eq).symm j))
    rw [Equiv.apply_symm_apply]
  · rw [show (M.squeeze s' h).view.set = M.view.set from View.set_reshape (v := M.view) h.numel_eq]
    iexact H

/-- And back, at contents given through the dropped axis. -/
theorem owns_of_squeeze (M : Memref sig .tc sp s e) (h : s.Squeezes s') (X : s.Idx → Elt F e) :
    (owns (c : Thread nD τ) (M.squeeze s' h) q (fun j => X (Shape.reshapeEquiv h.numel_eq j)) : sProp 𝕄) ⊢ owns (c : Thread nD τ) M q X := by
  have h' := owns_unsqueeze (q := q) c M h (fun j => X (Shape.reshapeEquiv h.numel_eq j))
  simp only [Equiv.apply_symm_apply] at h'
  exact h'

/-- A load of a piece reads what it holds. -/
theorem wp_load_owns {M : Memref sig .tc cs s e} {r : Rect s} {hr : ∀ a, r.stride a = 1} {hl : M.view.LoadsAt r.toLoadRect}
    {α : Type} {k : (r.shape.Idx → Elt F e) → Prog (TpuEff nD τ sig (Elt F) Λ₀ .tc) α} {Q : α → sProp 𝕄} {X : r.shape.Idx → Elt F e} :
    (owns (c : Thread nD τ) (M.slice r hr) q X : sProp 𝕄)
      ⊢ iprop((owns (c : Thread nD τ) (M.slice r hr) q X -∗ wpc c (k X) Q) -∗ wpc c (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr
  · ipureintro; exact hf
  · iexact H

/-- A store into a piece leaves what was stored. -/
theorem wp_store_owns {M : Memref sig .tc cs s e} {r : Rect s} {hr : ∀ a, r.stride a = 1} {w : r.shape.Idx → Elt F e}
    {hx : (M.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} {X : r.shape.Idx → Elt F e} :
    (owns (c : Thread nD τ) (M.slice r hr) fullShare X : sProp 𝕄)
      ⊢ iprop((owns (c : Thread nD τ) (M.slice r hr) fullShare w -∗ wpc c (k ⟨⟩) Q) -∗ wpc c (.op (.store M r w Finset.univ hx hm) k) Q) := by
  unfold owns
  iintro ⟨%f, %hf, H⟩ Hk
  iapply (wp_store 𝒱₀ (c : Thread nD τ) none Set.univ (m := M) (r := r) (Mk := Finset.univ)
    (show (M.access r).setOn Finset.univ ⊆ (M.slice r hr).view.set from Finset.Subset.refl _)) $$ H
  iintro H
  iapply Hk
  iexists _
  isplitr
  · ipureintro; exact View.read_write_univ (v := M.access r) f w
  · iexact H

/-- A local copy started: the flight will bring the destination holding what the source holds, and the source back. -/
theorem wp_copy_owns {A : Memref sig .tc sp s e} {B : Memref sig .tc sp' s e} {sm : DmaSem sig}
    {hsrc : A.view.WordExact} {hdst : B.view.WordExact} {hsem : DmaTarget.Typed (nD := nD) (τ := τ) (sig := sig) (p := .tc) sp (.dma sm) (.here B)}
    {α : Type} {k : PUnit → Prog (TpuEff nD τ sig (Elt F) Λ₀ .tc) α} {Q : α → sProp 𝕄} {X Y : s.Idx → Elt F e}
    (N : ℕ) (hN : B.view.amount (.dma sm) = N) (hN0 : 0 < N) :
    (owns (c : Thread nD τ) A q X : sProp 𝕄)
      ⊢ iprop(owns (c : Thread nD τ) B fullShare Y -∗ semVal ((c : Thread nD τ), .dma sm) 0 -∗ (Transfers.Flight EC (c : Thread nD τ) (.dma sm) () N iprop(owns (c : Thread nD τ) B fullShare X ∗ owns (c : Thread nD τ) A q X)
            -∗ wpc c (k ⟨⟩) Q)
          -∗ wpc (F := F) c (.op (.enqueueDma A (.here B) (.dma sm) hsrc hdst hsem) k) Q) := by
  iintro HA HB Hv Hk
  ihave HA' := (show owns (c : Thread nD τ) A q X ⊢ iprop(∃ f, ⌜A.view.read (Elt F) f = X⌝ ∗ A.view.loc (c : Thread nD τ) ↦[A.view.set]{q} f) from .rfl) $$ HA
  icases HA' with ⟨%f, %hf, HA⟩
  ihave HB' := (show owns (c : Thread nD τ) B fullShare Y ⊢ iprop(∃ g, ⌜B.view.read (Elt F) g = Y⌝ ∗ B.view.loc (c : Thread nD τ) ↦[B.view.set]{fullShare} g) from .rfl) $$ HB
  icases HB' with ⟨%g, %hg, HB⟩
  iapply (Transfers.wp_dmaLocal EC 𝒱₀ (c : Thread nD τ) none () N hN hN0 (Finset.Subset.refl _)) $$ [HA HB Hv]
  · isplitl [HA]; · iexact HA
    isplitl [HB] <;> iassumption
  iintro Hf
  iapply Hk
  iapply (Transfers.Flight_mono EC (c : Thread nD τ) ?_) $$ Hf
  subst hf
  iintro ⟨HB, HA⟩
  isplitl [HB]
  · unfold owns
    iexists _
    isplitr
    · ipureintro; exact View.read_write_univ (v := B.view) g _
    · iexact HB
  · iapply (owns_intro (c : Thread nD τ) A q f) $$ HA

end Pieces

/-! ## The shared records, and what a device still owes -/

section Protocol
variable (m : (ℓ : Loc nD τ sig) → Buf (Elt F) ℓ)

/-- What every device may use again and again: the invariants of all shared semaphores, at the names `K`; that each
is in its first round; the levels. -/
def recs (K : Dev nD × CI → ℕ) : sProp 𝕄 :=
  iprop((bigSep Finset.univ fun ci : Dev nD × CI => cellInv ER (Rd m) (K ci) (kcell ci))
    ∗ (bigSep Finset.univ fun ci : Dev nD × CI => reached ER (kcell ci) 0) ∗ levAts L lv)

/-- The shared records may be used again and again. -/
instance recs_persistent (K : Dev nD × CI → ℕ) : BI.Persistent (recs m K) := by unfold recs; infer_instance

/-- They hold each cell's invariant, -/
theorem recs_inv (K : Dev nD × CI → ℕ) (ci : Dev nD × CI) : recs m K ⊢ cellInv ER (Rd m) (K ci) (kcell ci) := by
  unfold recs
  iintro ⟨H, -, -⟩
  iapply (show (bigSep Finset.univ fun ci : Dev nD × CI => (cellInv ER (Rd m) (K ci) (kcell ci) : sProp 𝕄)) ⊢ cellInv ER (Rd m) (K ci) (kcell ci)
    from bigSep_elim (Finset.mem_univ ci)) $$ H
/-- that each cell has reached its first round, -/
theorem recs_reached (K : Dev nD × CI → ℕ) (ci : Dev nD × CI) : recs m K ⊢ (reached ER (kcell ci) 0 : sProp 𝕄) := by
  unfold recs
  iintro ⟨-, H, -⟩
  iapply (show (bigSep Finset.univ fun ci : Dev nD × CI => (reached ER (kcell ci) 0 : sProp 𝕄)) ⊢ reached ER (kcell ci) 0
    from bigSep_elim (Finset.mem_univ ci)) $$ H
/-- and the levels. -/
theorem recs_lev (K : Dev nD × CI → ℕ) : recs m K ⊢ (levAts L lv : sProp 𝕄) := by
  unfold recs
  iintro ⟨-, -, H⟩
  iexact H

/-- Device `c` has the payments `xs` still to make. -/
def owe (c : Dev nD) (xs : List (Fin 4 × CI)) : sProp 𝕄 := iprop(∃ W, owes (c : Thread nD τ) (oweL c xs) W)

/-- Before a send of chunk `k` towards peer `j`: the two payments it makes, and the place on its own semaphore. -/
def kitS (c : Dev nD) (j k : Fin 4) : sProp 𝕄 :=
  iprop(dutyTok ER (kcell (c, some (j, false, k))) 0 0 ∗ dutyTok ER (kcell (peer j c, some (j, true, k))) 0 0
    ∗ atPos ER (kcell (c, some (j, false, k))) 0 ∅ 0)

/-- A wait to come on the shared semaphore `i`: the place on it and the credit for all it brings. -/
def kitW (c : Dev nD) (i : CI) : sProp 𝕄 :=
  iprop(atPos ER (kcell (c, i)) 0 ∅ 0 ∗ cred (tallyAt (kcell (c, i)) () (tot i)))

/-- The shared semaphore `i` of device `c`, done with. -/
abbrev done (c : Dev nD) (i : CI) : sProp 𝕄 := semVal (kcell (c, i)) 0

variable (K : Dev nD × CI → ℕ) (c : Dev nD)

/-- A local copy waited for. -/
theorem wp_copied {sm : DmaSem sig} {sp sp' : Space} {s s' : Shape} {e e' : EltTy} {A : Memref sig .tc sp' s' e'} {B : Memref sig .tc sp s e}
    {hsrc : A.view.WordExact} {hdst : B.view.WordExact} {α : Type} {k : PUnit → Prog (TpuEff nD τ sig (Elt F) Λ₀ .tc) α} {Q : α → sProp 𝕄}
    {N : ℕ} (hN : B.view.dmaCredit = N) {D : sProp 𝕄} (hsm : ∀ i, csem i ≠ .dma sm) {xs : List (Fin 4 × CI)} (hxs : ∀ x ∈ xs, 0 < clv x.2) :
    recs m K
      ⊢ iprop(Transfers.Flight EC (c : Thread nD τ) (.dma sm) () N D -∗ owe c xs -∗ ((D ∗ semVal ((c : Thread nD τ), .dma sm) 0 ∗ owe c xs) -∗ wpc c (k ⟨⟩) Q)
          -∗ wpc (F := F) c (.op (.waitDma2 sm A B hsrc hdst) k) Q) := by
  unfold owe
  iintro #HR Hf ⟨%W, HO⟩ Hk
  iapply (Transfers.wp_waitLocalO EC 𝒱₀ (c : Thread nD τ) none () hN (O := oweL c xs) (W := W)) $$ [Hf HO]
  · isplitl [Hf]; · iexact Hf
    isplitl [HO]; · iexact HO
    iapply (mayWait_lt c (.dma sm) 0 (by unfold lv; rw [which_none hsm]) xs hxs)
    iapply (recs_lev m K); iexact HR
  iintro ⟨HD, Hv, HO⟩
  iapply Hk
  isplitl [HD]; · iexact HD
  isplitl [Hv]; · iexact Hv
  iexists _; iexact HO

/-- A signal of peer `j`'s barrier: its payment made, with what `c` hands over. -/
theorem wp_sig {n : Dev nD} (j : Fin 4) (hn : n = peer j c) {w : Int} (hw : w = ((1 : ℕ) : Int)) {xs : List (Fin 4 × CI)}
    {α : Type} {k : PUnit → Prog (TpuEff nD τ sig (Elt F) Λ₀ .tc) α} {Q : α → sProp 𝕄} :
    recs m K
      ⊢ iprop(owe c ((j, none) :: xs) -∗ dutyTok ER (kcell (peer j c, none)) 0 j -∗ pay m (peer j c) none j -∗ (owe c xs -∗ wpc c (k ⟨⟩) Q)
          -∗ wpc (F := F) c (.op (.semSignal (n : Thread nD τ) barS w) k) Q) := by
  subst hn; subst hw
  unfold owe
  iintro #HR ⟨%W, HO⟩ Ht Hp Hk
  iapply (Rounds.wp_signal 𝒱₀ ER (Rd m) (c : Thread nD τ) none (dst := (peer j c : Thread nD τ)) (sem := barS) (κ := K (peer j c, none)) (r := 0)
      (d := j) (k' := 1) ((Rd_duties m (peer j c) none).symm ▸ Finset.mem_univ j) (Rd_amount m (peer j c) none j) () (oweL c xs) rfl (W := W))
    $$ [HO Ht Hp]
  · isplitr; · iapply (recs_inv m K (peer j c, none)); iexact HR
    isplitl [HO]; · iexact HO
    isplitl [Ht]; · iexact Ht
    isplitl [Hp]
    · iapply (show pay m (peer j c) none j ⊢ (Rd (F := F) m).payload ((peer j c : Thread nD τ), .reg barS) 0 j from
        Entails.of_eq (Rd_payload m (peer j c) none j).symm); iexact Hp
    · iapply (recs_reached m K (peer j c, none)); iexact HR
  iintro HO
  iapply Hk
  iexists W; iexact HO

/-- The wait for the rest of a shared semaphore's round: all it hands over, and the semaphore back at zero. -/
theorem wp_got (i : CI) {w : TpuEff nD τ sig (Elt F) Λ₀ .tc PUnit} {sm : SemLoc sig} (hsm : sm = csem i) {n : ℕ} (hn : n = tot i)
    (hw : ∀ Kt : PUnit → sProp 𝕄, wpE (defs₀ (F := F)) 𝒱₀ (c : Thread nD τ) none Set.univ w Kt = waitSpec (c : Thread nD τ) Set.univ sm n Kt)
    {xs : List (Fin 4 × CI)} (hxs : ∀ x ∈ xs, clv i < clv x.2)
    {α : Type} {k : PUnit → Prog (TpuEff nD τ sig (Elt F) Λ₀ .tc) α} {Q : α → sProp 𝕄} :
    recs m K
      ⊢ iprop(kitW c i -∗ owe c xs -∗ ((got m c i ∗ done c i ∗ owe c xs) -∗ wpc c (k ⟨⟩) Q) -∗ wpc (F := F) c (.op w k) Q) := by
  subst hsm; subst hn
  unfold owe kitW done
  iintro #HR ⟨Hat, Hc⟩ ⟨%W, HO⟩ Hk
  iapply (Rounds.wp_wait_rest_token 𝒱₀ ER (Rd m) (c : Thread nD τ) none (κ := K (c, i)) hw (Set.mem_univ _) ()
      (O := oweL c xs) (W := W) (R := 0) (m := 0) (T := ∅) (by rw [Nat.zero_add]; exact (Rd_expect m c i).symm)) $$ [Hat Hc HO]
  · isplitr; · iapply (recs_inv m K (c, i)); iexact HR
    isplitl [Hc]; · iexact Hc
    isplitl [HO]; · iexact HO
    isplitr
    · iapply (mayWait_lt c (csem i) (clv i) (lv_kcell c i) xs hxs)
      iapply (recs_lev m K); iexact HR
    · iexact Hat
  iintro ⟨HO, Hat, -, Hp⟩
  ihave Hg := (Entails.of_eq (Rd_rest m c i)) $$ Hp
  imod (Rounds.cell_close ER (Rd m) (Set.mem_univ (K (c, i))) (fun h => h) (R := 0 + 1) (Rd_later m (kcell (c, i)))) $$ [Hat] with Hz
  · isplitr; · iapply (recs_inv m K (c, i)); iexact HR
    iexact Hat
  iapply Hk
  isplitl [Hg]; · iexact Hg
  isplitl [Hz]; · iexact Hz
  iexists _; iexact HO

/-- What the arrival of a partial product pays, -/
theorem amount_pr (kk : Fin 4) : ((prS kk).squeeze S256x256 squeezes_S1x256x256_S256x256).view.amount (.dma (dsem 0 true kk)) = NA := rfl
/-- and that of a finished block. -/
theorem amount_o (q j kk : Fin 4) : (oB q kk).view.amount (.dma (dsem j true kk)) = NB := rfl
/-- The amount on a semaphore of the partial products, -/
theorem amt_A (r : Bool) (kk : Fin 4) : amt (some (0, r, kk)) = NA := rfl
/-- and on one of the finished blocks. -/
theorem amt_B (j : Fin 4) (hj : j ≠ 0) (r : Bool) (kk : Fin 4) : amt (some (j, r, kk)) = NB := by
  fin_cases j <;> first | exact absurd rfl hj | rfl

/-- Once a partial product has left, its source comes back. -/
theorem pay_sendA (kk : Fin 4) : pay m c (some (0, false, kk)) 0 = owns (c : Thread nD τ) (psS kk) fullShare (psVal m c kk) := rfl
/-- Its arrival brings the slot with the peer's partial product. -/
theorem pay_recvA (kk : Fin 4) : pay m c (some (0, true, kk)) 0 = owns (c : Thread nD τ) (prS kk) fullShare (psVal m (peer 0 c) kk) := rfl
/-- Once a finished block has left towards a peer, that peer's share of the block comes back. -/
theorem pay_sendB (j : Fin 4) (hj : j ≠ 0) (kk : Fin 4) :
    pay m c (some (j, false, kk)) 0 = owns (c : Thread nD τ) (oB (quad c) kk) (shr j) (outVal m c kk) := by
  fin_cases j <;> first | exact absurd rfl hj | rfl
/-- Its arrival brings the peer's block of the result. -/
theorem pay_recvB (j : Fin 4) (hj : j ≠ 0) (kk : Fin 4) :
    pay m c (some (j, true, kk)) 0 = owns (c : Thread nD τ) (oB (quad (peer j c)) kk) fullShare (outVal m (peer j c) kk) := by
  fin_cases j <;> first | exact absurd rfl hj | rfl

/-- A send to a peer, for any block: what is lent pays the send semaphore, what is written there pays the receive one. -/
theorem wp_send_any {s : Shape} {e : EltTy} (j kk : Fin 4) {A B : Memref sig .tc .vmem s e} (N : ℕ) (ha : ∀ r, amt (some (j, r, kk)) = N)
    (hN : B.view.amount (.dma (dsem j true kk)) = N) {q : PosShare TreeShare}
    {f : Buf (Elt F) (A.view.loc (c : Thread nD τ))} {g : Buf (Elt F) (B.view.loc (peer j c : Thread nD τ))}
    (h1 : (A.view.loc (c : Thread nD τ) ↦[A.view.set]{q} f : sProp 𝕄) ⊢ pay m c (some (j, false, kk)) 0)
    (h2 : (B.view.loc (peer j c : Thread nD τ) ↦[B.view.set]{fullShare} (B.view.write (Elt F) g (A.view.read (Elt F) f) Finset.univ) : sProp 𝕄)
      ⊢ pay m (peer j c) (some (j, true, kk)) 0)
    {hsc : B.view.ref.isScScratch = false} {hsrc : A.view.WordExact} {hdst : B.view.WordExact}
    {hsem : DmaTarget.Typed .vmem (.dma (dsem j true kk)) (.remote (peer j c : Thread nD τ) B (.dma (dsem j false kk)) hsc)} {xs : List (Fin 4 × CI)}
    {α : Type} {k : PUnit → Prog (TpuEff nD τ sig (Elt F) Λ₀ .tc) α} {Q : α → sProp 𝕄} :
    recs m K
      ⊢ iprop(kitS c j kk -∗ owe c ((j, some (j, true, kk)) :: xs) -∗ (A.view.loc (c : Thread nD τ) ↦[A.view.set]{q} f)
          -∗ (B.view.loc (peer j c : Thread nD τ) ↦[B.view.set]{fullShare} g) -∗ ((kitW c (some (j, false, kk)) ∗ owe c xs) -∗ wpc c (k ⟨⟩) Q)
          -∗ wpc (F := F) c (.op (.enqueueDma A (.remote (peer j c : Thread nD τ) B (.dma (dsem j false kk)) hsc) (.dma (dsem j true kk)) hsrc hdst hsem) k) Q) := by
  have ho : oweL c ((j, some (j, true, kk)) :: xs)
      = oweL c xs + tallyAt ((peer j c : Thread nD τ), SemLoc.dma (dsem j true kk)) () N := by
    rw [← ha true]; rfl
  have d1 : (0 : Fin 4) ∈ (Rd (F := F) m).duties ((c : Thread nD τ), .dma (dsem j false kk)) 0 :=
    (Rd_duties m c (some (j, false, kk))).symm ▸ Finset.mem_singleton_self _
  have d2 : (0 : Fin 4) ∈ (Rd (F := F) m).duties ((peer j c : Thread nD τ), .dma (dsem j true kk)) 0 :=
    (Rd_duties m (peer j c) (some (j, true, kk))).symm ▸ Finset.mem_singleton_self _
  have a1 : (Rd (F := F) m).amount ((c : Thread nD τ), .dma (dsem j false kk)) 0 0 = N := (Rd_amount m c (some (j, false, kk)) 0).trans (ha _)
  have a2 : (Rd (F := F) m).amount ((peer j c : Thread nD τ), .dma (dsem j true kk)) 0 0 = N := (Rd_amount m (peer j c) (some (j, true, kk)) 0).trans (ha _)
  have p1 : (A.view.loc (c : Thread nD τ) ↦[A.view.set]{q} f : sProp 𝕄) ⊢ (Rd m).payload ((c : Thread nD τ), .dma (dsem j false kk)) 0 0 :=
    h1.trans (Entails.of_eq (Rd_payload m c (some (j, false, kk)) 0).symm)
  have p2 : (B.view.loc (peer j c : Thread nD τ) ↦[B.view.set]{fullShare} (B.view.write (Elt F) g (A.view.read (Elt F) f) Finset.univ) : sProp 𝕄)
      ⊢ (Rd m).payload ((peer j c : Thread nD τ), .dma (dsem j true kk)) 0 0 :=
    h2.trans (Entails.of_eq (Rd_payload m (peer j c) (some (j, true, kk)) 0).symm)
  unfold owe kitS kitW
  iintro #HR ⟨Ht1, Ht2, Hat⟩ ⟨%W, HO⟩ HA HB Hk
  iapply (Rounds.wp_send_pointsTo 𝒱₀ ER (Rd m) (c : Thread nD τ) none (κ₁ := K (c, some (j, false, kk))) (κ₂ := K (peer j c, some (j, true, kk)))
      (r₁ := 0) (r₂ := 0) (d₁ := 0) (d₂ := 0) (q := q) (fs := f) (fd := g) d1 d2 () () N hN a1 a2 (oweL c xs) ho (W := W) p1 p2)
    $$ [HA HB HO Ht1 Ht2]
  · isplitr; · iapply (recs_inv m K (c, some (j, false, kk))); iexact HR
    isplitr; · iapply (recs_inv m K (peer j c, some (j, true, kk))); iexact HR
    isplitl [HA]; · iexact HA
    isplitl [HB]; · iexact HB
    isplitl [HO]; · iexact HO
    isplitl [Ht1]; · iexact Ht1
    isplitr; · iapply (recs_reached m K (c, some (j, false, kk))); iexact HR
    isplitl [Ht2]; · iexact Ht2
    iapply (recs_reached m K (peer j c, some (j, true, kk))); iexact HR
  iintro ⟨Hc, HO⟩
  iapply Hk
  isplitl [Hat Hc]
  · isplitl [Hat]; · iexact Hat
    rw [show tot (some (j, false, kk)) = N from ha false]
    iexact Hc
  iexists W; iexact HO

/-- A copy of a partial product to the peer across x. -/
theorem wp_sendA {n : Dev nD} (kk : Fin 4) (hn : n = peer 0 c) {A B : Memref sig .tc .vmem S256x256 .fp8e4m3}
    (hA : A = (psS kk).squeeze S256x256 squeezes_S1x256x256_S256x256) (hB : B = (prS kk).squeeze S256x256 squeezes_S1x256x256_S256x256)
    {sS sR : DmaSem sig} (hsS : sS = dsem 0 false kk) (hsR : sR = dsem 0 true kk)
    {hsc : B.view.ref.isScScratch = false} {hsrc : A.view.WordExact} {hdst : B.view.WordExact}
    {hsem : DmaTarget.Typed .vmem (.dma sR) (.remote (n : Thread nD τ) B (.dma sS) hsc)} {xs : List (Fin 4 × CI)}
    {α : Type} {k : PUnit → Prog (TpuEff nD τ sig (Elt F) Λ₀ .tc) α} {Q : α → sProp 𝕄} :
    recs m K
      ⊢ iprop(kitS c 0 kk -∗ owe c ((0, some (0, true, kk)) :: xs) -∗ owns (c : Thread nD τ) (psS kk) fullShare (psVal m c kk)
          -∗ (∃ X, owns (peer 0 c : Thread nD τ) (prS kk) fullShare X) -∗ ((kitW c (some (0, false, kk)) ∗ owe c xs) -∗ wpc c (k ⟨⟩) Q)
          -∗ wpc (F := F) c (.op (.enqueueDma A (.remote (n : Thread nD τ) B (.dma sS) hsc) (.dma sR) hsrc hdst hsem) k) Q) := by
  subst hn; subst hA; subst hB; subst hsS; subst hsR
  iintro #HR Hkit HO HA ⟨%Y, HB⟩ Hk
  ihave HA' := (owns_squeeze c (psS kk) squeezes_S1x256x256_S256x256 (psVal m c kk)) $$ HA
  ihave HB' := (owns_squeeze (peer 0 c) (prS kk) squeezes_S1x256x256_S256x256 Y) $$ HB
  unfold owns
  icases HA' with ⟨%f, %hf, HA⟩
  icases HB' with ⟨%g, -, HB⟩
  iapply (wp_send_any m K c 0 kk (A := (psS kk).squeeze S256x256 squeezes_S1x256x256_S256x256)
      (B := (prS kk).squeeze S256x256 squeezes_S1x256x256_S256x256) NA (fun r => amt_A r kk) (amount_pr kk) (q := fullShare) (f := f) (g := g)
    (by
      rw [pay_sendA]
      refine (owns_intro (c : Thread nD τ) ((psS kk).squeeze S256x256 squeezes_S1x256x256_S256x256) fullShare f).trans ?_
      rw [hf]
      exact owns_of_squeeze c (psS kk) squeezes_S1x256x256_S256x256 (psVal m c kk))
    (by
      rw [pay_recvA, peer_peer]
      refine (owns_intro (peer 0 c : Thread nD τ) ((prS kk).squeeze S256x256 squeezes_S1x256x256_S256x256) fullShare _).trans ?_
      rw [View.read_write_univ, hf]
      exact owns_of_squeeze (peer 0 c) (prS kk) squeezes_S1x256x256_S256x256 (psVal m c kk))) $$ HR Hkit HO HA HB Hk

/-- A copy of a finished block to peer `j` across y, z or both, `j ≠ 0`, lending the share `shr j` of the block. -/
theorem wp_sendB {n : Dev nD} (j kk : Fin 4) (hj : j ≠ 0) (hn : n = peer j c) {A : Memref sig .tc .vmem S256x256 .bf16} (hA : A = oB (quad c) kk)
    {sS sR : DmaSem sig} (hsS : sS = dsem j false kk) (hsR : sR = dsem j true kk)
    {hsc : A.view.ref.isScScratch = false} {hsrc : A.view.WordExact} {hdst : A.view.WordExact}
    {hsem : DmaTarget.Typed .vmem (.dma sR) (.remote (n : Thread nD τ) A (.dma sS) hsc)}
    {xs : List (Fin 4 × CI)} {α : Type} {k : PUnit → Prog (TpuEff nD τ sig (Elt F) Λ₀ .tc) α} {Q : α → sProp 𝕄} :
    recs m K
      ⊢ iprop(kitS c j kk -∗ owe c ((j, some (j, true, kk)) :: xs) -∗ owns (c : Thread nD τ) (oB (quad c) kk) (shr j) (outVal m c kk)
          -∗ (∃ X, owns (peer j c : Thread nD τ) (oB (quad c) kk) fullShare X) -∗ ((kitW c (some (j, false, kk)) ∗ owe c xs) -∗ wpc c (k ⟨⟩) Q)
          -∗ wpc (F := F) c (.op (.enqueueDma A (.remote (n : Thread nD τ) A (.dma sS) hsc) (.dma sR) hsrc hdst hsem) k) Q) := by
  subst hn; subst hA; subst hsS; subst hsR
  have hp1 := pay_sendB m c j hj kk
  have hp2 := pay_recvB m (peer j c) j hj kk
  rw [peer_peer] at hp2
  unfold owns at hp1 hp2 ⊢
  iintro #HR Hkit HO ⟨%f, %hf, HA⟩ ⟨%Y, %g, -, HB⟩ Hk
  iapply (wp_send_any m K c j kk (A := oB (quad c) kk) (B := oB (quad c) kk) NB (fun r => amt_B j hj r kk) (amount_o (quad c) j kk) (q := shr j) (f := f) (g := g)
    (by
      rw [hp1, ← hf]
      exact owns_intro (c : Thread nD τ) (oB (quad c) kk) (shr j) f)
    (by
      rw [hp2]
      refine (owns_intro (peer j c : Thread nD τ) (oB (quad c) kk) fullShare _).trans (Entails.of_eq ?_)
      rw [View.read_write_univ, hf]; rfl)) $$ HR Hkit HO HA HB Hk

/-- The copy of block `kk` of `W`'s rows into slot `i` of its buffer, under way. -/
def wFly (i : Fin 3) (kk : Fin 4) : sProp 𝕄 :=
  Transfers.Flight EC (c : Thread nD τ) (.dma (wsem i)) () ((wS 0).squeeze S256x4096 squeezes_S1x256x4096_S256x4096).view.dmaCredit
    iprop(owns (c : Thread nD τ) (wS i) fullShare (wVal m c kk) ∗ owns (c : Thread nD τ) (yR kk) fullShare (yRows m c kk))

/-- A local copy's semaphore at zero. -/
abbrev idle (sm : DmaSem sig) : sProp 𝕄 := semVal ((c : Thread nD τ), .dma sm) 0

/-- The semaphores of the local copies are none of the shared ones. -/
theorem wsem_own (i : Fin 3) (i' : CI) : csem i' ≠ .dma (wsem i) := by
  rcases i' with _ | ⟨j, r, k⟩
  · exact fun h => by cases h
  · intro h
    have hv := congrArg Fin.val (SemLoc.dma.inj h)
    rw [dsem_val, wsem_val] at hv
    have := i.isLt; omega

/-- Starting the local copy of a row block of the second argument into a slot. -/
theorem wp_copyW (i : Fin 3) (kk : Fin 4) {A : Memref sig .tc .hbm S256x4096 .f32} {B : Memref sig .tc .vmem S256x4096 .f32} (hA : A = yR kk)
    (hB : B = (wS i).squeeze S256x4096 squeezes_S1x256x4096_S256x4096) {sm : DmaSem sig} (hsm : sm = wsem i)
    {hsrc : A.view.WordExact} {hdst : B.view.WordExact} {hsem : DmaTarget.Typed (nD := nD) (τ := τ) (sig := sig) (p := .tc) .hbm (.dma sm) (.here B)}
    {α : Type} {k : PUnit → Prog (TpuEff nD τ sig (Elt F) Λ₀ .tc) α} {Q : α → sProp 𝕄} :
    (owns (c : Thread nD τ) (yR kk) fullShare (yRows m c kk) : sProp 𝕄)
      ⊢ iprop((∃ Y, owns (c : Thread nD τ) (wS i) fullShare Y) -∗ idle c (wsem i) -∗ (wFly m c i kk -∗ wpc c (k ⟨⟩) Q)
          -∗ wpc (F := F) c (.op (.enqueueDma A (.here B) (.dma sm) hsrc hdst hsem) k) Q) := by
  subst hA; subst hB; subst hsm
  iintro HA ⟨%Y, HB⟩ Hv Hk
  ihave HB' := (owns_squeeze c (wS i) squeezes_S1x256x4096_S256x4096 Y) $$ HB
  iapply (wp_copy_owns c (A := yR kk) (B := (wS i).squeeze S256x4096 squeezes_S1x256x4096_S256x4096) (sm := wsem i)
    ((wS 0).squeeze S256x4096 squeezes_S1x256x4096_S256x4096).view.dmaCredit rfl (View.dmaCredit_pos _ (by decide))) $$ HA HB' Hv
  iintro Hf
  iapply Hk
  unfold wFly
  iapply (Transfers.Flight_mono EC (c : Thread nD τ) (sep_mono_left (owns_unsqueeze c (wS i) squeezes_S1x256x4096_S256x4096 (yRows m c kk)))) $$ Hf

/-- Waiting for it: the slot holds the row block. -/
theorem wp_copiedW (i : Fin 3) (kk : Fin 4) {sp' : Space} {s' : Shape} {e' : EltTy} {A : Memref sig .tc sp' s' e'} {B : Memref sig .tc .vmem S256x4096 .f32}
    (hB : B = (wS i).squeeze S256x4096 squeezes_S1x256x4096_S256x4096) {sm : DmaSem sig} (hsm : sm = wsem i)
    {hsrc : A.view.WordExact} {hdst : B.view.WordExact} {α : Type} {k : PUnit → Prog (TpuEff nD τ sig (Elt F) Λ₀ .tc) α} {Q : α → sProp 𝕄}
    {xs : List (Fin 4 × CI)} (hxs : ∀ x ∈ xs, 0 < clv x.2) :
    recs m K
      ⊢ iprop(wFly m c i kk -∗ owe c xs
          -∗ ((owns (c : Thread nD τ) (wS i) fullShare (wVal m c kk) ∗ owns (c : Thread nD τ) (yR kk) fullShare (yRows m c kk) ∗ idle c (wsem i) ∗ owe c xs)
            -∗ wpc c (k ⟨⟩) Q)
          -∗ wpc (F := F) c (.op (.waitDma2 sm A B hsrc hdst) k) Q) := by
  subst hB; subst hsm
  unfold wFly
  iintro #HR Hf HO Hk
  iapply (wp_copied m K c (A := A) (B := (wS i).squeeze S256x4096 squeezes_S1x256x4096_S256x4096)
    (N := ((wS 0).squeeze S256x4096 squeezes_S1x256x4096_S256x4096).view.dmaCredit) rfl (wsem_own i) hxs) $$ HR Hf HO
  iintro ⟨⟨HB, HA⟩, Hv, HO⟩
  iapply Hk
  isplitl [HB]; · iexact HB
  isplitl [HA]; · iexact HA
  isplitl [Hv]; · iexact Hv
  iexact HO

/-- The load of a block of the result the kernel makes before it stores it, and the store. -/
theorem wp_loadO (kk : Fin 4) {off : Fin 2 → ℕ} (hoff : off = ![256 * (quad c).val, 256 * kk.val])
    {hin : ∀ a, off a + S256x256.size a ≤ S1024x1024.size a} {hl : oM.view.LoadsAt (Rect.unit (s := S1024x1024) off S256x256.size hin).toLoadRect}
    {α : Type} {k : (S256x256.Idx → Elt F .bf16) → Prog (TpuEff nD τ sig (Elt F) Λ₀ .tc) α} {Q : α → sProp 𝕄} :
    (iprop(∃ X, owns (c : Thread nD τ) (oB (quad c) kk) fullShare X) : sProp 𝕄)
      ⊢ iprop((∀ X, owns (c : Thread nD τ) (oB (quad c) kk) fullShare X -∗ wpc c (k X) Q)
          -∗ wpc (F := F) c (.op (.load oM (Rect.unit (s := S1024x1024) off S256x256.size hin).toLoadRect hl) k) Q) := by
  subst hoff
  iintro ⟨%X, H⟩ Hk
  iapply (wp_load_owns c (M := oM) (r := outR (quad c) kk) (hr := fun _ => rfl)) $$ H
  iintro H
  iapply Hk $$ H

/-- Storing a finished block into the result. -/
theorem wp_storeO (kk : Fin 4) {off : Fin 2 → ℕ} (hoff : off = ![256 * (quad c).val, 256 * kk.val])
    {hin : ∀ a, off a + S256x256.size a ≤ S1024x1024.size a} {w w' : S256x256.Idx → Elt F .bf16} (hw : w = w')
    {hx : (oM.access (Rect.unit (s := S1024x1024) off S256x256.size hin)).Stores Finset.univ}
    {hm : (Finset.univ : Finset (Rect.unit (s := S1024x1024) off S256x256.size hin).shape.Idx) = Finset.univ
      ∨ ∀ a, (Rect.unit (s := S1024x1024) off S256x256.size hin).stride a = 1}
    {α : Type} {k : PUnit → Prog (TpuEff nD τ sig (Elt F) Λ₀ .tc) α} {Q : α → sProp 𝕄} {X : S256x256.Idx → Elt F .bf16} :
    (owns (c : Thread nD τ) (oB (quad c) kk) fullShare X : sProp 𝕄)
      ⊢ iprop((owns (c : Thread nD τ) (oB (quad c) kk) fullShare w' -∗ wpc c (k ⟨⟩) Q)
          -∗ wpc (F := F) c (.op (.store oM (Rect.unit (s := S1024x1024) off S256x256.size hin) w Finset.univ hx hm) k) Q) := by
  subst hoff; subst hw
  iintro H Hk
  iapply (wp_store_owns c (M := oM) (r := outR (quad c) kk) (hr := fun _ => rfl)) $$ H Hk

/-- The copy of the device's rows of the first argument into its buffer, under way; and waited for. -/
def xFly : sProp 𝕄 :=
  Transfers.Flight EC (c : Thread nD τ) (.dma (cc0_scratch6 : DmaSems sig S_).sem) () dyM.view.dmaCredit
    iprop(owns (c : Thread nD τ) dyM fullShare (xRows m c (quad c)) ∗ owns (c : Thread nD τ) (xR (quad c)) fullShare (xRows m c (quad c)))

/-- The semaphore of the copy of the first argument's rows is none of the shared ones. -/
theorem xsem_own (i' : CI) : csem i' ≠ .dma (cc0_scratch6 : DmaSems sig S_).sem := by
  rcases i' with _ | ⟨j, r, k⟩
  · exact fun h => by cases h
  · intro h
    have hv := congrArg Fin.val (SemLoc.dma.inj h)
    rw [dsem_val, show ((cc0_scratch6 : DmaSems sig S_).sem : DmaSem sig).val = 1 by decide +kernel] at hv
    omega

/-- Starting the local copy of the device's rows of the first argument. -/
theorem wp_copyX {hin : ∀ a, k0_off1 c a + S256x4096.size a ≤ S1024x4096.size a}
    {hsrc : (xM.slice (Rect.unit (s := S1024x4096) (k0_off1 c) S256x4096.size hin) (fun _ => rfl) : Memref sig .tc .hbm S256x4096 .f32).view.WordExact}
    {hdst : dyM.view.WordExact} {hsem : DmaTarget.Typed (nD := nD) (τ := τ) (sig := sig) (p := .tc) .hbm (.dma (cc0_scratch6 : DmaSems sig S_).sem) (.here dyM)}
    {α : Type} {k : PUnit → Prog (TpuEff nD τ sig (Elt F) Λ₀ .tc) α} {Q : α → sProp 𝕄} :
    (owns (c : Thread nD τ) (xR (quad c)) fullShare (xRows m c (quad c)) : sProp 𝕄)
      ⊢ iprop((∃ Y, owns (c : Thread nD τ) dyM fullShare Y) -∗ idle c (cc0_scratch6 : DmaSems sig S_).sem -∗ (xFly m c -∗ wpc c (k ⟨⟩) Q)
          -∗ wpc (F := F) c (.op (.enqueueDma (xM.slice (Rect.unit (s := S1024x4096) (k0_off1 c) S256x4096.size hin) (fun _ => rfl) : Memref sig .tc .hbm S256x4096 .f32)
            (.here dyM) (.dma (cc0_scratch6 : DmaSems sig S_).sem) hsrc hdst hsem) k) Q) := by
  have hoff := off1_eq c
  generalize k0_off1 c = off at hoff hin hsrc
  subst hoff
  iintro HA ⟨%Y, HB⟩ Hv Hk
  unfold xFly
  iapply (wp_copy_owns c (A := xR (quad c)) (B := dyM) (sm := (cc0_scratch6 : DmaSems sig S_).sem)
    dyM.view.dmaCredit rfl (View.dmaCredit_pos _ (by decide))) $$ HA HB Hv Hk

/-- Waiting for it: the buffer holds the rows. -/
theorem wp_copiedX {sp' : Space} {s' : Shape} {e' : EltTy} {A : Memref sig .tc sp' s' e'}
    {hsrc : A.view.WordExact} {hdst : dyM.view.WordExact} {α : Type} {k : PUnit → Prog (TpuEff nD τ sig (Elt F) Λ₀ .tc) α} {Q : α → sProp 𝕄}
    {xs : List (Fin 4 × CI)} (hxs : ∀ x ∈ xs, 0 < clv x.2) :
    recs m K
      ⊢ iprop(xFly m c -∗ owe c xs
          -∗ ((owns (c : Thread nD τ) dyM fullShare (xRows m c (quad c)) ∗ owns (c : Thread nD τ) (xR (quad c)) fullShare (xRows m c (quad c))
              ∗ idle c (cc0_scratch6 : DmaSems sig S_).sem ∗ owe c xs) -∗ wpc c (k ⟨⟩) Q)
          -∗ wpc (F := F) c (.op (.waitDma2 (cc0_scratch6 : DmaSems sig S_).sem A dyM hsrc hdst) k) Q) := by
  unfold xFly
  iintro #HR Hf HO Hk
  iapply (wp_copied m K c (A := A) (B := dyM) (N := dyM.view.dmaCredit) rfl xsem_own hxs) $$ HR Hf HO
  iintro ⟨⟨HB, HA⟩, Hv, HO⟩
  iapply Hk
  isplitl [HB]; · iexact HB
  isplitl [HA]; · iexact HA
  isplitl [Hv]; · iexact Hv
  iexact HO

end Protocol

/-! ## Whole buffers -/

section Whole
variable (c : Dev nD)

/-- Two zeros as an offset. -/
theorem zeros2 : (![0, 0] : Fin 2 → Nat) = fun _ => 0 := funext fun a => by fin_cases a <;> rfl

/-- The load of a whole buffer of rows reads what it holds, -/
theorem wp_loadX {hin : ∀ a, (![0, 0] : Fin 2 → Nat) a + S256x4096.size a ≤ S256x4096.size a}
    {hl : dyM.view.LoadsAt (Rect.unit (s := S256x4096) ![0, 0] S256x4096.size hin).toLoadRect}
    {α : Type} {Q : α → sProp 𝕄} {k : (S256x4096.Idx → Elt F .f32) → Prog (TpuEff nD τ sig (Elt F) Λ₀ .tc) α} {X : S256x4096.Idx → Elt F .f32} :
    (owns (c : Thread nD τ) dyM fullShare X : sProp 𝕄)
      ⊢ iprop((owns (c : Thread nD τ) dyM fullShare X -∗ wpc c (k X) Q)
          -∗ wpc (F := F) c (.op (.load dyM (Rect.unit (s := S256x4096) ![0, 0] S256x4096.size hin).toLoadRect hl) k) Q) := by
  have h0 : (owns (c : Thread nD τ) dyM fullShare X : sProp 𝕄) = (((c : Thread nD τ).loc cc0_scratch0) ↦{fullShare} X) :=
    owns_whole (c : Thread nD τ) cc0_scratch0 fullShare X
  rw [h0]
  iintro H Hk
  iapply (wp_load 𝒱₀ (c : Thread nD τ) none Set.univ (m := dyM) (Finset.subset_univ _)) $$ H
  iintro H
  have h1 : dyM.view.readAt (Elt F) (Rect.unit (s := S256x4096) ![0, 0] S256x4096.size hin).toLoadRect X = X :=
    Memref.readAt_unit_zero (Elt F) cc0_scratch0 zeros2 hin X
  rw [h1]
  iapply Hk $$ H

/-- Loading the rounded rows. -/
theorem wp_loadA {hin : ∀ a, (![0, 0] : Fin 2 → Nat) a + S256x4096.size a ≤ S256x4096.size a}
    {hl : aM.view.LoadsAt (Rect.unit (s := S256x4096) ![0, 0] S256x4096.size hin).toLoadRect}
    {α : Type} {Q : α → sProp 𝕄} {k : (S256x4096.Idx → Elt F .bf16) → Prog (TpuEff nD τ sig (Elt F) Λ₀ .tc) α} {X : S256x4096.Idx → Elt F .bf16} :
    (owns (c : Thread nD τ) aM fullShare X : sProp 𝕄)
      ⊢ iprop((owns (c : Thread nD τ) aM fullShare X -∗ wpc c (k X) Q)
          -∗ wpc (F := F) c (.op (.load aM (Rect.unit (s := S256x4096) ![0, 0] S256x4096.size hin).toLoadRect hl) k) Q) := by
  rw [show (owns (c : Thread nD τ) aM fullShare X : sProp 𝕄) = _ from owns_whole (c : Thread nD τ) cc0_scratch1 fullShare X]
  iintro H Hk
  iapply (wp_load 𝒱₀ (c : Thread nD τ) none Set.univ (m := aM) (Finset.subset_univ _)) $$ H
  iintro H
  rw [show aM.view.readAt (Elt F) (Rect.unit (s := S256x4096) ![0, 0] S256x4096.size hin).toLoadRect X = X from
    Memref.readAt_unit_zero (Elt F) cc0_scratch1 zeros2 _ X]
  iapply Hk $$ H

/-- and the store of a whole buffer leaves what was stored. -/
theorem wp_storeA {hin : ∀ a, (![0, 0] : Fin 2 → Nat) a + S256x4096.size a ≤ S256x4096.size a} {w : S256x4096.Idx → Elt F .bf16}
    {hx : (aM.access (Rect.unit (s := S256x4096) ![0, 0] S256x4096.size hin)).Stores Finset.univ}
    {hm : (Finset.univ : Finset (Rect.unit (s := S256x4096) ![0, 0] S256x4096.size hin).shape.Idx) = Finset.univ
      ∨ ∀ a, (Rect.unit (s := S256x4096) ![0, 0] S256x4096.size hin).stride a = 1}
    {α : Type} {Q : α → sProp 𝕄} {k : PUnit → Prog (TpuEff nD τ sig (Elt F) Λ₀ .tc) α} {X : S256x4096.Idx → Elt F .bf16} :
    (owns (c : Thread nD τ) aM fullShare X : sProp 𝕄)
      ⊢ iprop((owns (c : Thread nD τ) aM fullShare w -∗ wpc c (k ⟨⟩) Q)
          -∗ wpc (F := F) c (.op (.store aM (Rect.unit (s := S256x4096) ![0, 0] S256x4096.size hin) w Finset.univ hx hm) k) Q) := by
  rw [show (owns (c : Thread nD τ) aM fullShare X : sProp 𝕄) = _ from owns_whole (c : Thread nD τ) cc0_scratch1 fullShare X,
    show (owns (c : Thread nD τ) aM fullShare w : sProp 𝕄) = _ from owns_whole (c : Thread nD τ) cc0_scratch1 fullShare w]
  iintro H Hk
  iapply (wp_store 𝒱₀ (c : Thread nD τ) none Set.univ (m := aM) (r := Rect.unit (s := S256x4096) ![0, 0] S256x4096.size hin) (Mk := Finset.univ)
    (Finset.subset_univ _)) $$ H
  iintro H
  rw [show ((aM.access (Rect.unit (s := S256x4096) ![0, 0] S256x4096.size hin)) : View sig .tc _ _ _).write (Elt F) X w Finset.univ = w from
    Memref.write_access_unit_zero_univ (Elt F) cc0_scratch1 zeros2 _ X w]
  iapply Hk $$ H

end Whole

end Cert.GatherProof

end
-- ==== Proof.Body.lean ====
/-
The body of the kernel, run once at any device: from its own buffers, the payments it is to make and the places on its
own semaphores, to every buffer's contents and every semaphore at zero.
-/
module

public import proofs.«01_k».proof.Proof.Steps
public import Idealize.ShloMosaic.Lib.MemrefSat

@[expose] public section

set_option maxRecDepth 16384

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which device each copy goes to, and which block it carries -/

/-- The device that this transfer names is that peer. -/
theorem dev5_eq (c : Dev nD) : (⟨k0_dev5 c, k0_dev5_lt c⟩ : Dev nD) = peer 0 c := by revert c; decide +kernel
/-- The device that this transfer names is that peer. -/
theorem dev6_eq (c : Dev nD) : (⟨k0_dev6 c, k0_dev6_lt c⟩ : Dev nD) = peer 0 c := by revert c; decide +kernel
/-- The device that this transfer names is that peer. -/
theorem dev7_eq (c : Dev nD) : (⟨k0_dev7 c, k0_dev7_lt c⟩ : Dev nD) = peer 1 c := by revert c; decide +kernel
/-- The device that this transfer names is that peer. -/
theorem dev8_eq (c : Dev nD) : (⟨k0_dev8 c, k0_dev8_lt c⟩ : Dev nD) = peer 2 c := by revert c; decide +kernel
/-- The device that this transfer names is that peer. -/
theorem dev9_eq (c : Dev nD) : (⟨k0_dev9 c, k0_dev9_lt c⟩ : Dev nD) = peer 3 c := by revert c; decide +kernel
/-- The device that this transfer names is that peer. -/
theorem dev10_eq (c : Dev nD) : (⟨k0_dev10 c, k0_dev10_lt c⟩ : Dev nD) = peer 0 c := by revert c; decide +kernel
/-- The device that this transfer names is that peer. -/
theorem dev11_eq (c : Dev nD) : (⟨k0_dev11 c, k0_dev11_lt c⟩ : Dev nD) = peer 1 c := by revert c; decide +kernel
/-- The device that this transfer names is that peer. -/
theorem dev12_eq (c : Dev nD) : (⟨k0_dev12 c, k0_dev12_lt c⟩ : Dev nD) = peer 2 c := by revert c; decide +kernel
/-- The device that this transfer names is that peer. -/
theorem dev13_eq (c : Dev nD) : (⟨k0_dev13 c, k0_dev13_lt c⟩ : Dev nD) = peer 3 c := by revert c; decide +kernel
/-- The device that this transfer names is that peer. -/
theorem dev14_eq (c : Dev nD) : (⟨k0_dev14 c, k0_dev14_lt c⟩ : Dev nD) = peer 0 c := by revert c; decide +kernel
/-- The device that this transfer names is that peer. -/
theorem dev15_eq (c : Dev nD) : (⟨k0_dev15 c, k0_dev15_lt c⟩ : Dev nD) = peer 1 c := by revert c; decide +kernel
/-- The device that this transfer names is that peer. -/
theorem dev16_eq (c : Dev nD) : (⟨k0_dev16 c, k0_dev16_lt c⟩ : Dev nD) = peer 2 c := by revert c; decide +kernel
/-- The device that this transfer names is that peer. -/
theorem dev17_eq (c : Dev nD) : (⟨k0_dev17 c, k0_dev17_lt c⟩ : Dev nD) = peer 3 c := by revert c; decide +kernel
/-- The device that this transfer names is that peer. -/
theorem dev18_eq (c : Dev nD) : (⟨k0_dev18 c, k0_dev18_lt c⟩ : Dev nD) = peer 1 c := by revert c; decide +kernel
/-- The device that this transfer names is that peer. -/
theorem dev19_eq (c : Dev nD) : (⟨k0_dev19 c, k0_dev19_lt c⟩ : Dev nD) = peer 2 c := by revert c; decide +kernel
/-- The device that this transfer names is that peer. -/
theorem dev20_eq (c : Dev nD) : (⟨k0_dev20 c, k0_dev20_lt c⟩ : Dev nD) = peer 3 c := by revert c; decide +kernel

/-- Where the device's own block at chunk 0 starts. -/
theorem off2_eq (c : Dev nD) : k0_off2 c = ![256 * (quad c).val, 256 * (0 : Fin 4).val] := by revert c; decide +kernel
/-- Where the device's own block at chunk 0 starts. -/
theorem off3_eq (c : Dev nD) : k0_off3 c = ![256 * (quad c).val, 256 * (0 : Fin 4).val] := by revert c; decide +kernel
/-- Where the device's own block at chunk 1 starts. -/
theorem off4_eq (c : Dev nD) : k0_off4 c = ![256 * (quad c).val, 256 * (1 : Fin 4).val] := by revert c; decide +kernel
/-- Where the device's own block at chunk 1 starts. -/
theorem off5_eq (c : Dev nD) : k0_off5 c = ![256 * (quad c).val, 256 * (1 : Fin 4).val] := by revert c; decide +kernel
/-- Where the device's own block at chunk 2 starts. -/
theorem off6_eq (c : Dev nD) : k0_off6 c = ![256 * (quad c).val, 256 * (2 : Fin 4).val] := by revert c; decide +kernel
/-- Where the device's own block at chunk 2 starts. -/
theorem off7_eq (c : Dev nD) : k0_off7 c = ![256 * (quad c).val, 256 * (2 : Fin 4).val] := by revert c; decide +kernel
/-- Where the device's own block at chunk 3 starts. -/
theorem off8_eq (c : Dev nD) : k0_off8 c = ![256 * (quad c).val, 256 * (3 : Fin 4).val] := by revert c; decide +kernel
/-- Where the device's own block at chunk 3 starts. -/
theorem off9_eq (c : Dev nD) : k0_off9 c = ![256 * (quad c).val, 256 * (3 : Fin 4).val] := by revert c; decide +kernel

/-- A block of the result cut at offsets known to be block `(q, k)`'s. -/
theorem oB_of {off : Fin 2 → ℕ} (q k : Fin 4) (hoff : off = ![256 * q.val, 256 * k.val]) {hin : ∀ a, off a + S256x256.size a ≤ S1024x1024.size a} :
    (oM.slice (Rect.unit (s := S1024x1024) off S256x256.size hin) (fun _ => rfl) : Memref sig .tc .vmem S256x256 .bf16) = oB q k := by
  subst hoff; rfl

/-! ## Reads and writes of the slots, and what a wait brings -/

/-- Slot `k` of a buffer of four. -/
abbrev slotOf {e : EltTy} (M : Memref sig .tc .vmem S4x256x256 e) (k : Fin 4) : Memref sig .tc .vmem S1x256x256 e := M.slice (slotR k) (fun _ => rfl)

section Slots
variable (c : Dev nD)

/-- Loading a slot of a buffer of four. -/
theorem wp_loadS {e : EltTy} {M : Memref sig .tc .vmem S4x256x256 e} (kk : Fin 4) {off : Fin 3 → ℕ} (hoff : off = ![kk.val, 0, 0])
    {hin : ∀ a, off a + S1x256x256.size a ≤ S4x256x256.size a}
    {hl : M.view.LoadsAt (Rect.unit (s := S4x256x256) off S1x256x256.size hin).toLoadRect}
    {α : Type} {Q : α → sProp 𝕄} {k : (S1x256x256.Idx → Elt F e) → Prog (TpuEff nD τ sig (Elt F) Λ₀ .tc) α} {X : S1x256x256.Idx → Elt F e} :
    (owns (c : Thread nD τ) (slotOf M kk) fullShare X : sProp 𝕄)
      ⊢ iprop((owns (c : Thread nD τ) (slotOf M kk) fullShare X -∗ wpc c (k X) Q)
          -∗ wpc (F := F) c (.op (.load M (Rect.unit (s := S4x256x256) off S1x256x256.size hin).toLoadRect hl) k) Q) := by
  subst hoff
  exact wp_load_owns c (M := M) (r := slotR kk) (hr := fun _ => rfl)

/-- A body that returns needs only its postcondition. -/
theorem wpc_ret {α : Type} (a : α) {Q : α → sProp 𝕄} : (Q a : sProp 𝕄) ⊢ wpc (F := F) c (.ret a) Q := by
  unfold wpc
  rw [wp_ret]
  iintro H
  imodintro
  iexact H

/-- A slot is read before it is written, and what is read is not used. -/
theorem wp_loadS_any {e : EltTy} {M : Memref sig .tc .vmem S4x256x256 e} (kk : Fin 4) {off : Fin 3 → ℕ} (hoff : off = ![kk.val, 0, 0])
    {hin : ∀ a, off a + S1x256x256.size a ≤ S4x256x256.size a}
    {hl : M.view.LoadsAt (Rect.unit (s := S4x256x256) off S1x256x256.size hin).toLoadRect}
    {α : Type} {Q : α → sProp 𝕄} {k : (S1x256x256.Idx → Elt F e) → Prog (TpuEff nD τ sig (Elt F) Λ₀ .tc) α} :
    (iprop(∃ X, owns (c : Thread nD τ) (slotOf M kk) fullShare X) : sProp 𝕄)
      ⊢ iprop((∀ X, owns (c : Thread nD τ) (slotOf M kk) fullShare X -∗ wpc c (k X) Q)
          -∗ wpc (F := F) c (.op (.load M (Rect.unit (s := S4x256x256) off S1x256x256.size hin).toLoadRect hl) k) Q) := by
  iintro ⟨%X, H⟩ Hk
  iapply (wp_loadS c kk hoff) $$ H
  iintro H
  iapply Hk $$ H

/-- Storing a slot of a buffer of four. -/
theorem wp_storeS {e : EltTy} {M : Memref sig .tc .vmem S4x256x256 e} (kk : Fin 4) {w' : S1x256x256.Idx → Elt F e} {off : Fin 3 → ℕ} (hoff : off = ![kk.val, 0, 0])
    {hin : ∀ a, off a + S1x256x256.size a ≤ S4x256x256.size a} {w : S1x256x256.Idx → Elt F e} (hw : w = w')
    {hx : (M.access (Rect.unit (s := S4x256x256) off S1x256x256.size hin)).Stores Finset.univ}
    {hm : (Finset.univ : Finset (Rect.unit (s := S4x256x256) off S1x256x256.size hin).shape.Idx) = Finset.univ
      ∨ ∀ a, (Rect.unit (s := S4x256x256) off S1x256x256.size hin).stride a = 1}
    {α : Type} {Q : α → sProp 𝕄} {k : PUnit → Prog (TpuEff nD τ sig (Elt F) Λ₀ .tc) α} {X : S1x256x256.Idx → Elt F e} :
    (owns (c : Thread nD τ) (slotOf M kk) fullShare X : sProp 𝕄)
      ⊢ iprop((owns (c : Thread nD τ) (slotOf M kk) fullShare w' -∗ wpc c (k ⟨⟩) Q)
          -∗ wpc (F := F) c (.op (.store M (Rect.unit (s := S4x256x256) off S1x256x256.size hin) w Finset.univ hx hm) k) Q) := by
  subst hoff; subst hw
  exact wp_store_owns c (M := M) (r := slotR kk) (hr := fun _ => rfl)

/-- Loading a slot of the second argument's row blocks. -/
theorem wp_loadW (i : Fin 3) {off : Fin 3 → ℕ} (hoff : off = ![i.val, 0, 0]) {hin : ∀ a, off a + S1x256x4096.size a ≤ S3x256x4096.size a}
    {hl : wM.view.LoadsAt (Rect.unit (s := S3x256x4096) off S1x256x4096.size hin).toLoadRect}
    {α : Type} {Q : α → sProp 𝕄} {k : (S1x256x4096.Idx → Elt F .f32) → Prog (TpuEff nD τ sig (Elt F) Λ₀ .tc) α} {X : S1x256x4096.Idx → Elt F .f32} :
    (owns (c : Thread nD τ) (wS i) fullShare X : sProp 𝕄)
      ⊢ iprop((owns (c : Thread nD τ) (wS i) fullShare X -∗ wpc c (k X) Q)
          -∗ wpc (F := F) c (.op (.load wM (Rect.unit (s := S3x256x4096) off S1x256x4096.size hin).toLoadRect hl) k) Q) := by
  subst hoff
  exact wp_load_owns c (M := wM) (r := wslotR i) (hr := fun _ => rfl)

variable (m : (ℓ : Loc nD τ sig) → Buf (Elt F) ℓ) (K : Dev nD × CI → ℕ)

/-- A send to the other plane waited for: its slot back. -/
theorem wp_gotSA (kk : Fin 4) {sp' : Space} {s' : Shape} {e' : EltTy} {A : Memref sig .tc sp' s' e'} {B : Memref sig .tc .vmem S256x256 .fp8e4m3} (hB : B = (psS kk).squeeze S256x256 squeezes_S1x256x256_S256x256)
    {sm : DmaSem sig} (hsm : sm = dsem 0 false kk)
    {hsrc : A.view.WordExact} {hdst : B.view.WordExact}
    {xs : List (Fin 4 × CI)} (hxs : ∀ y ∈ xs, clv (some (0, false, kk)) < clv y.2) {α : Type} {k : PUnit → Prog (TpuEff nD τ sig (Elt F) Λ₀ .tc) α} {Q : α → sProp 𝕄} :
    recs m K
      ⊢ iprop(kitW c (some (0, false, kk)) -∗ owe c xs -∗ ((owns (c : Thread nD τ) (psS kk) fullShare (psVal m c kk) ∗ done c (some (0, false, kk)) ∗ owe c xs) -∗ wpc c (k ⟨⟩) Q)
          -∗ wpc (F := F) c (.op (.waitDma2 sm A B hsrc hdst) k) Q) := by
  subst hsm; subst hB
  have h := wp_got m K c (some (0, false, kk)) (w := .waitDma2 (dsem 0 false kk) A _ hsrc hdst) rfl rfl (wpE_waitDma2_eq 𝒱₀ (c : Thread nD τ) none Set.univ) hxs (k := k) (Q := Q)
  rw [show got m c (some (0, false, kk)) = _ from pay_sendA m c kk] at h
  exact h

/-- The other plane's copy waited for: the slot it fills. -/
theorem wp_gotRA (kk : Fin 4) {sp' : Space} {s' : Shape} {e' : EltTy} {A : Memref sig .tc sp' s' e'} {B : Memref sig .tc .vmem S256x256 .fp8e4m3} (hB : B = (prS kk).squeeze S256x256 squeezes_S1x256x256_S256x256)
    {sm : DmaSem sig} (hsm : sm = dsem 0 true kk)
    {hsrc : A.view.WordExact} {hdst : B.view.WordExact}
    {xs : List (Fin 4 × CI)} (hxs : ∀ y ∈ xs, clv (some (0, true, kk)) < clv y.2) {α : Type} {k : PUnit → Prog (TpuEff nD τ sig (Elt F) Λ₀ .tc) α} {Q : α → sProp 𝕄} :
    recs m K
      ⊢ iprop(kitW c (some (0, true, kk)) -∗ owe c xs -∗ ((owns (c : Thread nD τ) (prS kk) fullShare (psVal m (peer 0 c) kk) ∗ done c (some (0, true, kk)) ∗ owe c xs) -∗ wpc c (k ⟨⟩) Q)
          -∗ wpc (F := F) c (.op (.waitDma2 sm A B hsrc hdst) k) Q) := by
  subst hsm; subst hB
  have h := wp_got m K c (some (0, true, kk)) (w := .waitDma2 (dsem 0 true kk) A _ hsrc hdst) rfl rfl (wpE_waitDma2_eq 𝒱₀ (c : Thread nD τ) none Set.univ) hxs (k := k) (Q := Q)
  rw [show got m c (some (0, true, kk)) = _ from pay_recvA m c kk] at h
  exact h

/-- A copy of a block within the plane waited for: the lent share back. -/
theorem wp_gotSB (j kk : Fin 4) (hj : j ≠ 0) {sp' : Space} {s' : Shape} {e' : EltTy} {A : Memref sig .tc sp' s' e'} {B : Memref sig .tc .vmem S256x256 .bf16} (hB : B = oB (quad c) kk)
    {sm : DmaSem sig} (hsm : sm = dsem j false kk)
    {hsrc : A.view.WordExact} {hdst : B.view.WordExact}
    {xs : List (Fin 4 × CI)} (hxs : ∀ y ∈ xs, clv (some (j, false, kk)) < clv y.2) {α : Type} {k : PUnit → Prog (TpuEff nD τ sig (Elt F) Λ₀ .tc) α} {Q : α → sProp 𝕄} :
    recs m K
      ⊢ iprop(kitW c (some (j, false, kk)) -∗ owe c xs -∗ ((owns (c : Thread nD τ) (oB (quad c) kk) (shr j) (outVal m c kk) ∗ done c (some (j, false, kk)) ∗ owe c xs) -∗ wpc c (k ⟨⟩) Q)
          -∗ wpc (F := F) c (.op (.waitDma2 sm A B hsrc hdst) k) Q) := by
  subst hsm; subst hB
  have h := wp_got m K c (some (j, false, kk)) (w := .waitDma2 (dsem j false kk) A _ hsrc hdst) rfl (amt_B j hj false kk).symm (wpE_waitDma2_eq 𝒱₀ (c : Thread nD τ) none Set.univ) hxs (k := k) (Q := Q)
  rw [show got m c (some (j, false, kk)) = _ from pay_sendB m c j hj kk] at h
  exact h

/-- A peer's copy within the plane waited for: the peer's block of the result. -/
theorem wp_gotRB (j kk : Fin 4) (hj : j ≠ 0) {sp' : Space} {s' : Shape} {e' : EltTy} {A : Memref sig .tc sp' s' e'} {B : Memref sig .tc .vmem S256x256 .bf16} (hB : B = oB (quad c) kk)
    {sm : DmaSem sig} (hsm : sm = dsem j true kk)
    {hsrc : A.view.WordExact} {hdst : B.view.WordExact}
    {xs : List (Fin 4 × CI)} (hxs : ∀ y ∈ xs, clv (some (j, true, kk)) < clv y.2) {α : Type} {k : PUnit → Prog (TpuEff nD τ sig (Elt F) Λ₀ .tc) α} {Q : α → sProp 𝕄} :
    recs m K
      ⊢ iprop(kitW c (some (j, true, kk)) -∗ owe c xs -∗ ((owns (c : Thread nD τ) (oB (quad (peer j c)) kk) fullShare (outVal m (peer j c) kk) ∗ done c (some (j, true, kk)) ∗ owe c xs) -∗ wpc c (k ⟨⟩) Q)
          -∗ wpc (F := F) c (.op (.waitDma2 sm A B hsrc hdst) k) Q) := by
  subst hsm; subst hB
  have h := wp_got m K c (some (j, true, kk)) (w := .waitDma2 (dsem j true kk) A _ hsrc hdst) rfl (amt_B j hj true kk).symm (wpE_waitDma2_eq 𝒱₀ (c : Thread nD τ) none Set.univ) hxs (k := k) (Q := Q)
  rw [show got m c (some (j, true, kk)) = _ from pay_recvB m c j hj kk] at h
  exact h

/-- The three shares of a block that the three copies of it lend, and the block back from them. -/
theorem shares (k : Fin 4) (X : S256x256.Idx → Elt F .bf16) :
    (owns (c : Thread nD τ) (oB (quad c) k) fullShare X : sProp 𝕄)
      ⊢ iprop(owns (c : Thread nD τ) (oB (quad c) k) (shr 1) X ∗ owns (c : Thread nD τ) (oB (quad c) k) (shr 2) X ∗ owns (c : Thread nD τ) (oB (quad c) k) (shr 3) X) :=
  (owns_halves (c : Thread nD τ) (oB (quad c) k) fullShare X).1.trans
    (sep_mono_right (owns_halves (c : Thread nD τ) (oB (quad c) k) fullShare.right X).1)

/-- The three peers' shares of a finished block make it whole again. -/
theorem unshare (k : Fin 4) (X : S256x256.Idx → Elt F .bf16) :
    iprop(owns (c : Thread nD τ) (oB (quad c) k) (shr 1) X ∗ owns (c : Thread nD τ) (oB (quad c) k) (shr 2) X ∗ owns (c : Thread nD τ) (oB (quad c) k) (shr 3) X)
      ⊢ (owns (c : Thread nD τ) (oB (quad c) k) fullShare X : sProp 𝕄) :=
  (sep_mono_right (owns_halves (c : Thread nD τ) (oB (quad c) k) fullShare.right X).2).trans
    (owns_halves (c : Thread nD τ) (oB (quad c) k) fullShare X).2

/-- A piece with known contents is a piece with some contents. -/
theorem owns_any {sp : Space} {s : Shape} {e : EltTy} (M : Memref sig .tc sp s e) (X : s.Idx → Elt F e) :
    (owns (c : Thread nD τ) M fullShare X : sProp 𝕄) ⊢ iprop(∃ Y, owns (c : Thread nD τ) M fullShare Y) := by
  iintro H
  iexists X
  iexact H

/-- Four pieces. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) _

/-- What the barrier brings: on each peer the slots or blocks this device's copies go to. -/
theorem got_bar : got m c none
    ⊢ iprop(((∃ X, owns (peer 0 c : Thread nD τ) (prS 0) fullShare X) ∗ (∃ X, owns (peer 0 c : Thread nD τ) (prS 1) fullShare X)
          ∗ (∃ X, owns (peer 0 c : Thread nD τ) (prS 2) fullShare X) ∗ (∃ X, owns (peer 0 c : Thread nD τ) (prS 3) fullShare X))
        ∗ ((∃ X, owns (peer 1 c : Thread nD τ) (oB (quad c) 0) fullShare X) ∗ (∃ X, owns (peer 1 c : Thread nD τ) (oB (quad c) 1) fullShare X)
          ∗ (∃ X, owns (peer 1 c : Thread nD τ) (oB (quad c) 2) fullShare X) ∗ (∃ X, owns (peer 1 c : Thread nD τ) (oB (quad c) 3) fullShare X))
        ∗ ((∃ X, owns (peer 2 c : Thread nD τ) (oB (quad c) 0) fullShare X) ∗ (∃ X, owns (peer 2 c : Thread nD τ) (oB (quad c) 1) fullShare X)
          ∗ (∃ X, owns (peer 2 c : Thread nD τ) (oB (quad c) 2) fullShare X) ∗ (∃ X, owns (peer 2 c : Thread nD τ) (oB (quad c) 3) fullShare X))
        ∗ ((∃ X, owns (peer 3 c : Thread nD τ) (oB (quad c) 0) fullShare X) ∗ (∃ X, owns (peer 3 c : Thread nD τ) (oB (quad c) 1) fullShare X)
          ∗ (∃ X, owns (peer 3 c : Thread nD τ) (oB (quad c) 2) fullShare X) ∗ (∃ X, owns (peer 3 c : Thread nD τ) (oB (quad c) 3) fullShare X))) := by
  unfold got pay
  simp only [four]
  exact .rfl

end Slots

/-! ## The body -/

section Body
variable (m : (ℓ : Loc nD τ sig) → Buf (Elt F) ℓ) (K : Dev nD × CI → ℕ) (c : Dev nD)

/-- The next payment of the list. -/
theorem owe_at (n : ℕ) (x : Fin 4 × CI) (h : pays.drop n = x :: pays.drop (n + 1)) :
    (owe (F := F) c (pays.drop n) : sProp 𝕄) ⊢ owe c (x :: pays.drop (n + 1)) := by
  rw [h]

/-- What the body starts with besides the shared facts and its payments: its tokens, its places, its idle copy semaphores,
    the rows of its arguments, and its buffers cut into the pieces it works on. -/
def before : sProp 𝕄 :=
  iprop((dutyTok ER (kcell (peer 0 c, none)) 0 0 ∗ dutyTok ER (kcell (peer 1 c, none)) 0 1 ∗ dutyTok ER (kcell (peer 2 c, none)) 0 2 ∗ dutyTok ER (kcell (peer 3 c, none)) 0 3)
    ∗ (pay m (peer 0 c) none 0 ∗ pay m (peer 1 c) none 1 ∗ pay m (peer 2 c) none 2 ∗ pay m (peer 3 c) none 3)
    ∗ kitW c none
    ∗ ((kitS c 0 0 ∗ kitS c 0 1 ∗ kitS c 0 2 ∗ kitS c 0 3) ∗ (kitS c 1 0 ∗ kitS c 1 1 ∗ kitS c 1 2 ∗ kitS c 1 3)
      ∗ (kitS c 2 0 ∗ kitS c 2 1 ∗ kitS c 2 2 ∗ kitS c 2 3) ∗ (kitS c 3 0 ∗ kitS c 3 1 ∗ kitS c 3 2 ∗ kitS c 3 3))
    ∗ ((kitW c (some (0, true, 0)) ∗ kitW c (some (0, true, 1)) ∗ kitW c (some (0, true, 2)) ∗ kitW c (some (0, true, 3)))
      ∗ (kitW c (some (1, true, 0)) ∗ kitW c (some (1, true, 1)) ∗ kitW c (some (1, true, 2)) ∗ kitW c (some (1, true, 3)))
      ∗ (kitW c (some (2, true, 0)) ∗ kitW c (some (2, true, 1)) ∗ kitW c (some (2, true, 2)) ∗ kitW c (some (2, true, 3)))
      ∗ (kitW c (some (3, true, 0)) ∗ kitW c (some (3, true, 1)) ∗ kitW c (some (3, true, 2)) ∗ kitW c (some (3, true, 3))))
    ∗ (idle c (cc0_scratch6 : DmaSems sig S_).sem ∗ idle c (wsem 0) ∗ idle c (wsem 1) ∗ idle c (wsem 2))
    ∗ owns (c : Thread nD τ) (xR (quad c)) fullShare (xRows m c (quad c))
    ∗ (owns (c : Thread nD τ) (yR 0) fullShare (yRows m c 0) ∗ owns (c : Thread nD τ) (yR 1) fullShare (yRows m c 1)
      ∗ owns (c : Thread nD τ) (yR 2) fullShare (yRows m c 2) ∗ owns (c : Thread nD τ) (yR 3) fullShare (yRows m c 3))
    ∗ (∃ X, owns (c : Thread nD τ) dyM fullShare X) ∗ (∃ X, owns (c : Thread nD τ) aM fullShare X)
    ∗ ((∃ X, owns (c : Thread nD τ) (wS 0) fullShare X) ∗ (∃ X, owns (c : Thread nD τ) (wS 1) fullShare X) ∗ (∃ X, owns (c : Thread nD τ) (wS 2) fullShare X))
    ∗ ((∃ X, owns (c : Thread nD τ) (psS 0) fullShare X) ∗ (∃ X, owns (c : Thread nD τ) (psS 1) fullShare X)
      ∗ (∃ X, owns (c : Thread nD τ) (psS 2) fullShare X) ∗ (∃ X, owns (c : Thread nD τ) (psS 3) fullShare X))
    ∗ ((∃ X, owns (c : Thread nD τ) (pbS 0) fullShare X) ∗ (∃ X, owns (c : Thread nD τ) (pbS 1) fullShare X)
      ∗ (∃ X, owns (c : Thread nD τ) (pbS 2) fullShare X) ∗ (∃ X, owns (c : Thread nD τ) (pbS 3) fullShare X))
    ∗ ((∃ X, owns (c : Thread nD τ) (oB (quad c) 0) fullShare X) ∗ (∃ X, owns (c : Thread nD τ) (oB (quad c) 1) fullShare X)
      ∗ (∃ X, owns (c : Thread nD τ) (oB (quad c) 2) fullShare X) ∗ (∃ X, owns (c : Thread nD τ) (oB (quad c) 3) fullShare X)))

/-- What it ends with: every shared semaphore done with, the idle ones idle again, the arguments' rows unchanged, the working
    buffers at some contents, and every block of the result. -/
def after : sProp 𝕄 :=
  iprop(owe c []
    ∗ (done c none
      ∗ ((done c (some (0, false, 0)) ∗ done c (some (0, false, 1)) ∗ done c (some (0, false, 2)) ∗ done c (some (0, false, 3)))
        ∗ (done c (some (1, false, 0)) ∗ done c (some (1, false, 1)) ∗ done c (some (1, false, 2)) ∗ done c (some (1, false, 3)))
        ∗ (done c (some (2, false, 0)) ∗ done c (some (2, false, 1)) ∗ done c (some (2, false, 2)) ∗ done c (some (2, false, 3)))
        ∗ (done c (some (3, false, 0)) ∗ done c (some (3, false, 1)) ∗ done c (some (3, false, 2)) ∗ done c (some (3, false, 3))))
      ∗ ((done c (some (0, true, 0)) ∗ done c (some (0, true, 1)) ∗ done c (some (0, true, 2)) ∗ done c (some (0, true, 3)))
        ∗ (done c (some (1, true, 0)) ∗ done c (some (1, true, 1)) ∗ done c (some (1, true, 2)) ∗ done c (some (1, true, 3)))
        ∗ (done c (some (2, true, 0)) ∗ done c (some (2, true, 1)) ∗ done c (some (2, true, 2)) ∗ done c (some (2, true, 3)))
        ∗ (done c (some (3, true, 0)) ∗ done c (some (3, true, 1)) ∗ done c (some (3, true, 2)) ∗ done c (some (3, true, 3)))))
    ∗ (idle c (cc0_scratch6 : DmaSems sig S_).sem ∗ idle c (wsem 0) ∗ idle c (wsem 1) ∗ idle c (wsem 2))
    ∗ owns (c : Thread nD τ) (xR (quad c)) fullShare (xRows m c (quad c))
    ∗ (owns (c : Thread nD τ) (yR 0) fullShare (yRows m c 0) ∗ owns (c : Thread nD τ) (yR 1) fullShare (yRows m c 1)
      ∗ owns (c : Thread nD τ) (yR 2) fullShare (yRows m c 2) ∗ owns (c : Thread nD τ) (yR 3) fullShare (yRows m c 3))
    ∗ (∃ X, owns (c : Thread nD τ) dyM fullShare X) ∗ (∃ X, owns (c : Thread nD τ) aM fullShare X)
    ∗ ((∃ X, owns (c : Thread nD τ) (wS 0) fullShare X) ∗ (∃ X, owns (c : Thread nD τ) (wS 1) fullShare X) ∗ (∃ X, owns (c : Thread nD τ) (wS 2) fullShare X))
    ∗ ((∃ X, owns (c : Thread nD τ) (psS 0) fullShare X) ∗ (∃ X, owns (c : Thread nD τ) (psS 1) fullShare X)
      ∗ (∃ X, owns (c : Thread nD τ) (psS 2) fullShare X) ∗ (∃ X, owns (c : Thread nD τ) (psS 3) fullShare X))
    ∗ ((∃ X, owns (c : Thread nD τ) (prS 0) fullShare X) ∗ (∃ X, owns (c : Thread nD τ) (prS 1) fullShare X)
      ∗ (∃ X, owns (c : Thread nD τ) (prS 2) fullShare X) ∗ (∃ X, owns (c : Thread nD τ) (prS 3) fullShare X))
    ∗ ((∃ X, owns (c : Thread nD τ) (pbS 0) fullShare X) ∗ (∃ X, owns (c : Thread nD τ) (pbS 1) fullShare X)
      ∗ (∃ X, owns (c : Thread nD τ) (pbS 2) fullShare X) ∗ (∃ X, owns (c : Thread nD τ) (pbS 3) fullShare X))
    ∗ (owns (c : Thread nD τ) (oB (quad c) 0) fullShare (outVal m c 0) ∗ owns (c : Thread nD τ) (oB (quad c) 1) fullShare (outVal m c 1)
      ∗ owns (c : Thread nD τ) (oB (quad c) 2) fullShare (outVal m c 2) ∗ owns (c : Thread nD τ) (oB (quad c) 3) fullShare (outVal m c 3))
    ∗ (owns (c : Thread nD τ) (oB (quad (peer 1 c)) 0) fullShare (outVal m (peer 1 c) 0) ∗ owns (c : Thread nD τ) (oB (quad (peer 1 c)) 1) fullShare (outVal m (peer 1 c) 1)
      ∗ owns (c : Thread nD τ) (oB (quad (peer 1 c)) 2) fullShare (outVal m (peer 1 c) 2) ∗ owns (c : Thread nD τ) (oB (quad (peer 1 c)) 3) fullShare (outVal m (peer 1 c) 3))
    ∗ (owns (c : Thread nD τ) (oB (quad (peer 2 c)) 0) fullShare (outVal m (peer 2 c) 0) ∗ owns (c : Thread nD τ) (oB (quad (peer 2 c)) 1) fullShare (outVal m (peer 2 c) 1)
      ∗ owns (c : Thread nD τ) (oB (quad (peer 2 c)) 2) fullShare (outVal m (peer 2 c) 2) ∗ owns (c : Thread nD τ) (oB (quad (peer 2 c)) 3) fullShare (outVal m (peer 2 c) 3))
    ∗ (owns (c : Thread nD τ) (oB (quad (peer 3 c)) 0) fullShare (outVal m (peer 3 c) 0) ∗ owns (c : Thread nD τ) (oB (quad (peer 3 c)) 1) fullShare (outVal m (peer 3 c) 1)
      ∗ owns (c : Thread nD τ) (oB (quad (peer 3 c)) 2) fullShare (outVal m (peer 3 c) 2) ∗ owns (c : Thread nD τ) (oB (quad (peer 3 c)) 3) fullShare (outVal m (peer 3 c) 3)))

set_option maxHeartbeats 4000000 in
/-- The whole body, on the buffers cut into the pieces that its steps move. -/
theorem body_pieces :
    recs m K ⊢ iprop(owe c (pays.drop 0) -∗ before m c -∗ wpc (F := F) c (cc0_body (Memref.whole main_arg0) (Memref.isWhole_whole _) (Memref.whole main_arg1) (Memref.isWhole_whole _)
      (Memref.whole cc0_stg0_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 cc0_scratch12 cc0_scratch13
      cc0_scratch14 cc0_scratch15) (fun _ => after m c)) := by
  unfold before
  iintro #HR HO ⟨⟨T0, T1, T2, T3⟩, ⟨P0, P1, P2, P3⟩, HB, ⟨⟨S00, S01, S02, S03⟩, ⟨S10, S11, S12, S13⟩, ⟨S20, S21, S22, S23⟩, ⟨S30, S31, S32, S33⟩⟩,
    ⟨⟨R00, R01, R02, R03⟩, ⟨R10, R11, R12, R13⟩, ⟨R20, R21, R22, R23⟩, ⟨R30, R31, R32, R33⟩⟩, ⟨ID, I0, I1, I2⟩, X, ⟨Y0, Y1, Y2, Y3⟩, HD, HA,
    ⟨W0, W1, W2⟩, ⟨E0, E1, E2, E3⟩, ⟨B0, B1, B2, B3⟩, ⟨O0, O1, O2, O3⟩⟩
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  ihave HO := (owe_at c 0 (0, none) rfl) $$ HO
  iapply (wp_sig m K c 0 (xs := pays.drop 1) (dev1_eq c) rfl) $$ HR HO T0 P0
  iintro HO
  ihave HO := (owe_at c 1 (1, none) rfl) $$ HO
  iapply (wp_sig m K c 1 (xs := pays.drop 2) (dev2_eq c) rfl) $$ HR HO T1 P1
  iintro HO
  rw [k0_part2_eq_skeleton]; unfold k0_part2_skel
  simp only [semSignalWord, semWaitWord, Prog.lift, Prog.bind_op, Prog.bind_ret, Prog.pure_eq_ret, wp_deviceId]
  ihave HO := (owe_at c 2 (2, none) rfl) $$ HO
  iapply (wp_sig m K c 2 (xs := pays.drop 3) (dev3_eq c) rfl) $$ HR HO T2 P2
  iintro HO
  ihave HO := (owe_at c 3 (3, none) rfl) $$ HO
  iapply (wp_sig m K c 3 (xs := pays.drop 4) (dev4_eq c) rfl) $$ HR HO T3 P3
  iintro HO
  iapply (wp_copyX m c) $$ X HD ID
  iintro ID
  iapply (wp_copyW m c 0 0 rfl rfl rfl) $$ Y0 W0 I0
  iintro I0
  iapply (wp_copyW m c 1 1 rfl rfl rfl) $$ Y1 W1 I1
  iintro I1
  iapply (wp_copiedX m K c (xs := pays.drop 4) (by decide)) $$ HR ID HO
  iintro ⟨HD, X, ID, HO⟩
  iapply (wp_loadX c) $$ HD
  iintro HD
  icases HA with ⟨%_, HA⟩
  iapply (wp_loadA c) $$ HA
  iintro HA
  iapply (wp_storeA c) $$ HA
  iintro HA
  rw [k0_part3_eq_skeleton]; unfold k0_part3_skel
  simp only [semSignalWord, semWaitWord, Prog.lift, Prog.bind_op, Prog.bind_ret, Prog.pure_eq_ret, wp_deviceId]
  iapply (wp_got m K c none rfl rfl (wpE_semWait_eq 𝒱₀ (c : Thread nD τ) none Set.univ) (xs := pays.drop 4) (by decide)) $$ HR HB HO
  iintro ⟨HG, HB, HO⟩
  icases (got_bar c m) $$ HG with ⟨⟨D00, D01, D02, D03⟩, ⟨D10, D11, D12, D13⟩, ⟨D20, D21, D22, D23⟩, ⟨D30, D31, D32, D33⟩⟩
  iapply (wp_copyW m c 2 2 rfl rfl rfl) $$ Y2 W2 I2
  iintro I2
  iapply (wp_copiedW m K c 0 0 rfl rfl (xs := pays.drop 4) (by decide)) $$ HR I0 HO
  iintro ⟨W0, Y0, I0, HO⟩
  iapply (wp_loadA c) $$ HA
  iintro HA
  iapply (wp_loadW c 0 rfl) $$ W0
  iintro W0
  iapply (wp_loadS_any c (M := psM) 0 rfl) $$ E0
  iintro %_ E0
  iapply (wp_storeS c (M := psM) 0 (w' := psVal m c 0) rfl rfl) $$ E0
  iintro E0
  iapply (wp_loadS_any c (M := pbM) 0 rfl) $$ B0
  iintro %_ B0
  iapply (wp_storeS c (M := pbM) 0 (w' := pbVal m c 0) rfl rfl) $$ B0
  iintro B0
  rw [k0_part4_eq_skeleton]; unfold k0_part4_skel
  simp only [semSignalWord, semWaitWord, Prog.lift, Prog.bind_op, Prog.bind_ret, Prog.pure_eq_ret, wp_deviceId]
  ihave HO := (owe_at c 4 (0, some (0, true, 0)) rfl) $$ HO
  iapply (wp_sendA m K c 0 (xs := pays.drop 5) (dev5_eq c) rfl rfl rfl rfl) $$ HR S00 HO E0 D00
  iintro ⟨S00, HO⟩
  ihave W0 := (owns_any c (wS 0) (wVal m c 0)) $$ W0
  iapply (wp_copyW m c 0 3 rfl rfl rfl) $$ Y3 W0 I0
  iintro I0
  iapply (wp_copiedW m K c 1 1 rfl rfl (xs := pays.drop 5) (by decide)) $$ HR I1 HO
  iintro ⟨W1, Y1, I1, HO⟩
  iapply (wp_loadA c) $$ HA
  iintro HA
  iapply (wp_loadW c 1 rfl) $$ W1
  iintro W1
  rw [k0_part5_eq_skeleton]; unfold k0_part5_skel
  simp only [semSignalWord, semWaitWord, Prog.lift, Prog.bind_op, Prog.bind_ret, Prog.pure_eq_ret, wp_deviceId]
  iapply (wp_loadS_any c (M := psM) 1 rfl) $$ E1
  iintro %_ E1
  iapply (wp_storeS c (M := psM) 1 (w' := psVal m c 1) rfl rfl) $$ E1
  iintro E1
  iapply (wp_loadS_any c (M := pbM) 1 rfl) $$ B1
  iintro %_ B1
  iapply (wp_storeS c (M := pbM) 1 (w' := pbVal m c 1) rfl rfl) $$ B1
  iintro B1
  ihave HO := (owe_at c 5 (0, some (0, true, 1)) rfl) $$ HO
  iapply (wp_sendA m K c 1 (xs := pays.drop 6) (dev6_eq c) rfl rfl rfl rfl) $$ HR S01 HO E1 D01
  iintro ⟨S01, HO⟩
  iapply (wp_gotSA c m K 0 rfl rfl (xs := pays.drop 6) (by decide)) $$ HR S00 HO
  iintro ⟨E0, S00, HO⟩
  rw [k0_part6_eq_skeleton]; unfold k0_part6_skel
  simp only [semSignalWord, semWaitWord, Prog.lift, Prog.bind_op, Prog.bind_ret, Prog.pure_eq_ret, wp_deviceId]
  iapply (wp_gotRA c m K 0 rfl rfl (xs := pays.drop 6) (by decide)) $$ HR R00 HO
  iintro ⟨C0, R00, HO⟩
  iapply (wp_loadS c (M := pbM) 0 rfl) $$ B0
  iintro B0
  iapply (wp_loadS c (M := prM) 0 rfl) $$ C0
  iintro C0
  iapply (wp_loadO c 0 (off2_eq c)) $$ O0
  iintro %_ O0
  iapply (wp_storeO c 0 (w' := outVal m c 0) (off2_eq c) rfl) $$ O0
  iintro O0
  ihave ⟨Q10, Q20, Q30⟩ := (shares c 0 (outVal m c 0)) $$ O0
  rw [k0_part7_eq_skeleton]; unfold k0_part7_skel
  simp only [semSignalWord, semWaitWord, Prog.lift, Prog.bind_op, Prog.bind_ret, Prog.pure_eq_ret, wp_deviceId]
  ihave HO := (owe_at c 6 (1, some (1, true, 0)) rfl) $$ HO
  iapply (wp_sendB m K c 1 0 (xs := pays.drop 7) (by decide) (dev7_eq c) (oB_of (quad c) 0 (off3_eq c)) rfl rfl) $$ HR S10 HO Q10 D10
  iintro ⟨S10, HO⟩
  ihave HO := (owe_at c 7 (2, some (2, true, 0)) rfl) $$ HO
  iapply (wp_sendB m K c 2 0 (xs := pays.drop 8) (by decide) (dev8_eq c) (oB_of (quad c) 0 (off3_eq c)) rfl rfl) $$ HR S20 HO Q20 D20
  iintro ⟨S20, HO⟩
  ihave HO := (owe_at c 8 (3, some (3, true, 0)) rfl) $$ HO
  iapply (wp_sendB m K c 3 0 (xs := pays.drop 9) (by decide) (dev9_eq c) (oB_of (quad c) 0 (off3_eq c)) rfl rfl) $$ HR S30 HO Q30 D30
  iintro ⟨S30, HO⟩
  iapply (wp_copiedW m K c 2 2 rfl rfl (xs := pays.drop 9) (by decide)) $$ HR I2 HO
  iintro ⟨W2, Y2, I2, HO⟩
  rw [k0_part8_eq_skeleton]; unfold k0_part8_skel
  simp only [semSignalWord, semWaitWord, Prog.lift, Prog.bind_op, Prog.bind_ret, Prog.pure_eq_ret, wp_deviceId]
  iapply (wp_loadA c) $$ HA
  iintro HA
  iapply (wp_loadW c 2 rfl) $$ W2
  iintro W2
  iapply (wp_loadS_any c (M := psM) 2 rfl) $$ E2
  iintro %_ E2
  iapply (wp_storeS c (M := psM) 2 (w' := psVal m c 2) rfl rfl) $$ E2
  iintro E2
  iapply (wp_loadS_any c (M := pbM) 2 rfl) $$ B2
  iintro %_ B2
  iapply (wp_storeS c (M := pbM) 2 (w' := pbVal m c 2) rfl rfl) $$ B2
  iintro B2
  ihave HO := (owe_at c 9 (0, some (0, true, 2)) rfl) $$ HO
  iapply (wp_sendA m K c 2 (xs := pays.drop 10) (dev10_eq c) rfl rfl rfl rfl) $$ HR S02 HO E2 D02
  iintro ⟨S02, HO⟩
  rw [k0_part9_eq_skeleton]; unfold k0_part9_skel
  simp only [semSignalWord, semWaitWord, Prog.lift, Prog.bind_op, Prog.bind_ret, Prog.pure_eq_ret, wp_deviceId]
  iapply (wp_gotSA c m K 1 rfl rfl (xs := pays.drop 10) (by decide)) $$ HR S01 HO
  iintro ⟨E1, S01, HO⟩
  iapply (wp_gotRA c m K 1 rfl rfl (xs := pays.drop 10) (by decide)) $$ HR R01 HO
  iintro ⟨C1, R01, HO⟩
  iapply (wp_loadS c (M := pbM) 1 rfl) $$ B1
  iintro B1
  iapply (wp_loadS c (M := prM) 1 rfl) $$ C1
  iintro C1
  iapply (wp_loadO c 1 (off4_eq c)) $$ O1
  iintro %_ O1
  iapply (wp_storeO c 1 (w' := outVal m c 1) (off4_eq c) rfl) $$ O1
  iintro O1
  ihave ⟨Q11, Q21, Q31⟩ := (shares c 1 (outVal m c 1)) $$ O1
  rw [k0_part10_eq_skeleton]; unfold k0_part10_skel
  simp only [semSignalWord, semWaitWord, Prog.lift, Prog.bind_op, Prog.bind_ret, Prog.pure_eq_ret, wp_deviceId]
  ihave HO := (owe_at c 10 (1, some (1, true, 1)) rfl) $$ HO
  iapply (wp_sendB m K c 1 1 (xs := pays.drop 11) (by decide) (dev11_eq c) (oB_of (quad c) 1 (off5_eq c)) rfl rfl) $$ HR S11 HO Q11 D11
  iintro ⟨S11, HO⟩
  ihave HO := (owe_at c 11 (2, some (2, true, 1)) rfl) $$ HO
  iapply (wp_sendB m K c 2 1 (xs := pays.drop 12) (by decide) (dev12_eq c) (oB_of (quad c) 1 (off5_eq c)) rfl rfl) $$ HR S21 HO Q21 D21
  iintro ⟨S21, HO⟩
  rw [k0_part11_eq_skeleton]; unfold k0_part11_skel
  simp only [semSignalWord, semWaitWord, Prog.lift, Prog.bind_op, Prog.bind_ret, Prog.pure_eq_ret, wp_deviceId]
  ihave HO := (owe_at c 12 (3, some (3, true, 1)) rfl) $$ HO
  iapply (wp_sendB m K c 3 1 (xs := pays.drop 13) (by decide) (dev13_eq c) (oB_of (quad c) 1 (off5_eq c)) rfl rfl) $$ HR S31 HO Q31 D31
  iintro ⟨S31, HO⟩
  iapply (wp_copiedW m K c 0 3 rfl rfl (xs := pays.drop 13) (by decide)) $$ HR I0 HO
  iintro ⟨W0, Y3, I0, HO⟩
  iapply (wp_loadA c) $$ HA
  iintro HA
  iapply (wp_loadW c 0 rfl) $$ W0
  iintro W0
  iapply (wp_loadS_any c (M := psM) 3 rfl) $$ E3
  iintro %_ E3
  iapply (wp_storeS c (M := psM) 3 (w' := psVal m c 3) rfl rfl) $$ E3
  iintro E3
  iapply (wp_loadS_any c (M := pbM) 3 rfl) $$ B3
  iintro %_ B3
  iapply (wp_storeS c (M := pbM) 3 (w' := pbVal m c 3) rfl rfl) $$ B3
  iintro B3
  rw [k0_part12_eq_skeleton]; unfold k0_part12_skel
  simp only [semSignalWord, semWaitWord, Prog.lift, Prog.bind_op, Prog.bind_ret, Prog.pure_eq_ret, wp_deviceId]
  ihave HO := (owe_at c 13 (0, some (0, true, 3)) rfl) $$ HO
  iapply (wp_sendA m K c 3 (xs := pays.drop 14) (dev14_eq c) rfl rfl rfl rfl) $$ HR S03 HO E3 D03
  iintro ⟨S03, HO⟩
  iapply (wp_gotSA c m K 2 rfl rfl (xs := pays.drop 14) (by decide)) $$ HR S02 HO
  iintro ⟨E2, S02, HO⟩
  iapply (wp_gotRA c m K 2 rfl rfl (xs := pays.drop 14) (by decide)) $$ HR R02 HO
  iintro ⟨C2, R02, HO⟩
  iapply (wp_loadS c (M := pbM) 2 rfl) $$ B2
  iintro B2
  iapply (wp_loadS c (M := prM) 2 rfl) $$ C2
  iintro C2
  rw [k0_part13_eq_skeleton]; unfold k0_part13_skel
  simp only [semSignalWord, semWaitWord, Prog.lift, Prog.bind_op, Prog.bind_ret, Prog.pure_eq_ret, wp_deviceId]
  iapply (wp_loadO c 2 (off6_eq c)) $$ O2
  iintro %_ O2
  iapply (wp_storeO c 2 (w' := outVal m c 2) (off6_eq c) rfl) $$ O2
  iintro O2
  ihave ⟨Q12, Q22, Q32⟩ := (shares c 2 (outVal m c 2)) $$ O2
  ihave HO := (owe_at c 14 (1, some (1, true, 2)) rfl) $$ HO
  iapply (wp_sendB m K c 1 2 (xs := pays.drop 15) (by decide) (dev15_eq c) (oB_of (quad c) 2 (off7_eq c)) rfl rfl) $$ HR S12 HO Q12 D12
  iintro ⟨S12, HO⟩
  ihave HO := (owe_at c 15 (2, some (2, true, 2)) rfl) $$ HO
  iapply (wp_sendB m K c 2 2 (xs := pays.drop 16) (by decide) (dev16_eq c) (oB_of (quad c) 2 (off7_eq c)) rfl rfl) $$ HR S22 HO Q22 D22
  iintro ⟨S22, HO⟩
  rw [k0_part14_eq_skeleton]; unfold k0_part14_skel
  simp only [semSignalWord, semWaitWord, Prog.lift, Prog.bind_op, Prog.bind_ret, Prog.pure_eq_ret, wp_deviceId]
  ihave HO := (owe_at c 16 (3, some (3, true, 2)) rfl) $$ HO
  iapply (wp_sendB m K c 3 2 (xs := pays.drop 17) (by decide) (dev17_eq c) (oB_of (quad c) 2 (off7_eq c)) rfl rfl) $$ HR S32 HO Q32 D32
  iintro ⟨S32, HO⟩
  iapply (wp_gotSA c m K 3 rfl rfl (xs := pays.drop 17) (by decide)) $$ HR S03 HO
  iintro ⟨E3, S03, HO⟩
  iapply (wp_gotRA c m K 3 rfl rfl (xs := pays.drop 17) (by decide)) $$ HR R03 HO
  iintro ⟨C3, R03, HO⟩
  iapply (wp_loadS c (M := pbM) 3 rfl) $$ B3
  iintro B3
  rw [k0_part15_eq_skeleton]; unfold k0_part15_skel
  simp only [semSignalWord, semWaitWord, Prog.lift, Prog.bind_op, Prog.bind_ret, Prog.pure_eq_ret, wp_deviceId]
  iapply (wp_loadS c (M := prM) 3 rfl) $$ C3
  iintro C3
  iapply (wp_loadO c 3 (off8_eq c)) $$ O3
  iintro %_ O3
  iapply (wp_storeO c 3 (w' := outVal m c 3) (off8_eq c) rfl) $$ O3
  iintro O3
  ihave ⟨Q13, Q23, Q33⟩ := (shares c 3 (outVal m c 3)) $$ O3
  ihave HO := (owe_at c 17 (1, some (1, true, 3)) rfl) $$ HO
  iapply (wp_sendB m K c 1 3 (xs := pays.drop 18) (by decide) (dev18_eq c) (oB_of (quad c) 3 (off9_eq c)) rfl rfl) $$ HR S13 HO Q13 D13
  iintro ⟨S13, HO⟩
  ihave HO := (owe_at c 18 (2, some (2, true, 3)) rfl) $$ HO
  iapply (wp_sendB m K c 2 3 (xs := pays.drop 19) (by decide) (dev19_eq c) (oB_of (quad c) 3 (off9_eq c)) rfl rfl) $$ HR S23 HO Q23 D23
  iintro ⟨S23, HO⟩
  rw [k0_part16_eq_skeleton]; unfold k0_part16_skel
  simp only [semSignalWord, semWaitWord, Prog.lift, Prog.bind_op, Prog.bind_ret, Prog.pure_eq_ret, wp_deviceId]
  ihave HO := (owe_at c 19 (3, some (3, true, 3)) rfl) $$ HO
  iapply (wp_sendB m K c 3 3 (xs := pays.drop 20) (by decide) (dev20_eq c) (oB_of (quad c) 3 (off9_eq c)) rfl rfl) $$ HR S33 HO Q33 D33
  iintro ⟨S33, HO⟩
  iapply (wp_gotSB c m K 1 0 (by decide) (oB_of (quad c) 0 (off3_eq c)) rfl (xs := pays.drop 20) (by decide)) $$ HR S10 HO
  iintro ⟨Q10, S10, HO⟩
  iapply (wp_gotRB c m K 1 0 (by decide) (oB_of (quad c) 0 (off3_eq c)) rfl (xs := pays.drop 20) (by decide)) $$ HR R10 HO
  iintro ⟨F10, R10, HO⟩
  rw [k0_part17_eq_skeleton]; unfold k0_part17_skel
  simp only [semSignalWord, semWaitWord, Prog.lift, Prog.bind_op, Prog.bind_ret, Prog.pure_eq_ret, wp_deviceId]
  iapply (wp_gotSB c m K 2 0 (by decide) (oB_of (quad c) 0 (off3_eq c)) rfl (xs := pays.drop 20) (by decide)) $$ HR S20 HO
  iintro ⟨Q20, S20, HO⟩
  iapply (wp_gotRB c m K 2 0 (by decide) (oB_of (quad c) 0 (off3_eq c)) rfl (xs := pays.drop 20) (by decide)) $$ HR R20 HO
  iintro ⟨F20, R20, HO⟩
  iapply (wp_gotSB c m K 3 0 (by decide) (oB_of (quad c) 0 (off3_eq c)) rfl (xs := pays.drop 20) (by decide)) $$ HR S30 HO
  iintro ⟨Q30, S30, HO⟩
  iapply (wp_gotRB c m K 3 0 (by decide) (oB_of (quad c) 0 (off3_eq c)) rfl (xs := pays.drop 20) (by decide)) $$ HR R30 HO
  iintro ⟨F30, R30, HO⟩
  rw [k0_part18_eq_skeleton]; unfold k0_part18_skel
  simp only [semSignalWord, semWaitWord, Prog.lift, Prog.bind_op, Prog.bind_ret, Prog.pure_eq_ret, wp_deviceId]
  iapply (wp_gotSB c m K 1 1 (by decide) (oB_of (quad c) 1 (off5_eq c)) rfl (xs := pays.drop 20) (by decide)) $$ HR S11 HO
  iintro ⟨Q11, S11, HO⟩
  iapply (wp_gotRB c m K 1 1 (by decide) (oB_of (quad c) 1 (off5_eq c)) rfl (xs := pays.drop 20) (by decide)) $$ HR R11 HO
  iintro ⟨F11, R11, HO⟩
  iapply (wp_gotSB c m K 2 1 (by decide) (oB_of (quad c) 1 (off5_eq c)) rfl (xs := pays.drop 20) (by decide)) $$ HR S21 HO
  iintro ⟨Q21, S21, HO⟩
  iapply (wp_gotRB c m K 2 1 (by decide) (oB_of (quad c) 1 (off5_eq c)) rfl (xs := pays.drop 20) (by decide)) $$ HR R21 HO
  iintro ⟨F21, R21, HO⟩
  rw [k0_part19_eq_skeleton]; unfold k0_part19_skel
  simp only [semSignalWord, semWaitWord, Prog.lift, Prog.bind_op, Prog.bind_ret, Prog.pure_eq_ret, wp_deviceId]
  iapply (wp_gotSB c m K 3 1 (by decide) (oB_of (quad c) 1 (off5_eq c)) rfl (xs := pays.drop 20) (by decide)) $$ HR S31 HO
  iintro ⟨Q31, S31, HO⟩
  iapply (wp_gotRB c m K 3 1 (by decide) (oB_of (quad c) 1 (off5_eq c)) rfl (xs := pays.drop 20) (by decide)) $$ HR R31 HO
  iintro ⟨F31, R31, HO⟩
  iapply (wp_gotSB c m K 1 2 (by decide) (oB_of (quad c) 2 (off7_eq c)) rfl (xs := pays.drop 20) (by decide)) $$ HR S12 HO
  iintro ⟨Q12, S12, HO⟩
  iapply (wp_gotRB c m K 1 2 (by decide) (oB_of (quad c) 2 (off7_eq c)) rfl (xs := pays.drop 20) (by decide)) $$ HR R12 HO
  iintro ⟨F12, R12, HO⟩
  rw [k0_part20_eq_skeleton]; unfold k0_part20_skel
  simp only [semSignalWord, semWaitWord, Prog.lift, Prog.bind_op, Prog.bind_ret, Prog.pure_eq_ret, wp_deviceId]
  iapply (wp_gotSB c m K 2 2 (by decide) (oB_of (quad c) 2 (off7_eq c)) rfl (xs := pays.drop 20) (by decide)) $$ HR S22 HO
  iintro ⟨Q22, S22, HO⟩
  iapply (wp_gotRB c m K 2 2 (by decide) (oB_of (quad c) 2 (off7_eq c)) rfl (xs := pays.drop 20) (by decide)) $$ HR R22 HO
  iintro ⟨F22, R22, HO⟩
  iapply (wp_gotSB c m K 3 2 (by decide) (oB_of (quad c) 2 (off7_eq c)) rfl (xs := pays.drop 20) (by decide)) $$ HR S32 HO
  iintro ⟨Q32, S32, HO⟩
  rw [k0_part21_eq_skeleton]; unfold k0_part21_skel
  simp only [semSignalWord, semWaitWord, Prog.lift, Prog.bind_op, Prog.bind_ret, Prog.pure_eq_ret, wp_deviceId]
  iapply (wp_gotRB c m K 3 2 (by decide) (oB_of (quad c) 2 (off7_eq c)) rfl (xs := pays.drop 20) (by decide)) $$ HR R32 HO
  iintro ⟨F32, R32, HO⟩
  iapply (wp_gotSB c m K 1 3 (by decide) (oB_of (quad c) 3 (off9_eq c)) rfl (xs := pays.drop 20) (by decide)) $$ HR S13 HO
  iintro ⟨Q13, S13, HO⟩
  iapply (wp_gotRB c m K 1 3 (by decide) (oB_of (quad c) 3 (off9_eq c)) rfl (xs := pays.drop 20) (by decide)) $$ HR R13 HO
  iintro ⟨F13, R13, HO⟩
  iapply (wp_gotSB c m K 2 3 (by decide) (oB_of (quad c) 3 (off9_eq c)) rfl (xs := pays.drop 20) (by decide)) $$ HR S23 HO
  iintro ⟨Q23, S23, HO⟩
  iapply (wp_gotRB c m K 2 3 (by decide) (oB_of (quad c) 3 (off9_eq c)) rfl (xs := pays.drop 20) (by decide)) $$ HR R23 HO
  iintro ⟨F23, R23, HO⟩
  iapply (wp_gotSB c m K 3 3 (by decide) (oB_of (quad c) 3 (off9_eq c)) rfl (xs := pays.drop 20) (by decide)) $$ HR S33 HO
  iintro ⟨Q33, S33, HO⟩
  iapply (wp_gotRB c m K 3 3 (by decide) (oB_of (quad c) 3 (off9_eq c)) rfl (xs := pays.drop 20) (by decide)) $$ HR R33 HO
  iintro ⟨F33, R33, HO⟩
  iapply (wpc_ret c)
  ihave O0 := (unshare c 0 (outVal m c 0)) $$ [Q10 Q20 Q30]
  · isplitl [Q10]; · iexact Q10
    isplitl [Q20]; · iexact Q20
    iexact Q30
  ihave O1 := (unshare c 1 (outVal m c 1)) $$ [Q11 Q21 Q31]
  · isplitl [Q11]; · iexact Q11
    isplitl [Q21]; · iexact Q21
    iexact Q31
  ihave O2 := (unshare c 2 (outVal m c 2)) $$ [Q12 Q22 Q32]
  · isplitl [Q12]; · iexact Q12
    isplitl [Q22]; · iexact Q22
    iexact Q32
  ihave O3 := (unshare c 3 (outVal m c 3)) $$ [Q13 Q23 Q33]
  · isplitl [Q13]; · iexact Q13
    isplitl [Q23]; · iexact Q23
    iexact Q33
  ihave HO := (show owe (F := F) c (pays.drop 20) ⊢ owe c [] from .rfl) $$ HO
  unfold after
  isplitl [HO]; · iexact HO
  isplitl [HB S00 S01 S02 S03 S10 S11 S12 S13 S20 S21 S22 S23 S30 S31 S32 S33 R00 R01 R02 R03 R10 R11 R12 R13 R20 R21 R22 R23 R30 R31 R32 R33]
  · isplitl [HB]; · iexact HB
    isplitl [S00 S01 S02 S03 S10 S11 S12 S13 S20 S21 S22 S23 S30 S31 S32 S33]
    · isplitl [S00 S01 S02 S03]
      · isplitl [S00]; · iexact S00
        isplitl [S01]; · iexact S01
        isplitl [S02]; · iexact S02
        iexact S03
      isplitl [S10 S11 S12 S13]
      · isplitl [S10]; · iexact S10
        isplitl [S11]; · iexact S11
        isplitl [S12]; · iexact S12
        iexact S13
      isplitl [S20 S21 S22 S23]
      · isplitl [S20]; · iexact S20
        isplitl [S21]; · iexact S21
        isplitl [S22]; · iexact S22
        iexact S23
      isplitl [S30]; · iexact S30
      isplitl [S31]; · iexact S31
      isplitl [S32]; · iexact S32
      iexact S33
    isplitl [R00 R01 R02 R03]
    · isplitl [R00]; · iexact R00
      isplitl [R01]; · iexact R01
      isplitl [R02]; · iexact R02
      iexact R03
    isplitl [R10 R11 R12 R13]
    · isplitl [R10]; · iexact R10
      isplitl [R11]; · iexact R11
      isplitl [R12]; · iexact R12
      iexact R13
    isplitl [R20 R21 R22 R23]
    · isplitl [R20]; · iexact R20
      isplitl [R21]; · iexact R21
      isplitl [R22]; · iexact R22
      iexact R23
    isplitl [R30]; · iexact R30
    isplitl [R31]; · iexact R31
    isplitl [R32]; · iexact R32
    iexact R33
  isplitl [ID I0 I1 I2]
  · isplitl [ID]; · iexact ID
    isplitl [I0]; · iexact I0
    isplitl [I1]; · iexact I1
    iexact I2
  isplitl [X]; · iexact X
  isplitl [Y0 Y1 Y2 Y3]
  · isplitl [Y0]; · iexact Y0
    isplitl [Y1]; · iexact Y1
    isplitl [Y2]; · iexact Y2
    iexact Y3
  isplitl [HD]; · iexists _; iexact HD
  isplitl [HA]; · iexists _; iexact HA
  isplitl [W0 W1 W2]
  · isplitl [W0]; · iexists _; iexact W0
    isplitl [W1]; · iexists _; iexact W1
    iexists _; iexact W2
  isplitl [E0 E1 E2 E3]
  · isplitl [E0]; · iexists _; iexact E0
    isplitl [E1]; · iexists _; iexact E1
    isplitl [E2]; · iexists _; iexact E2
    iexists _; iexact E3
  isplitl [C0 C1 C2 C3]
  · isplitl [C0]; · iexists _; iexact C0
    isplitl [C1]; · iexists _; iexact C1
    isplitl [C2]; · iexists _; iexact C2
    iexists _; iexact C3
  isplitl [B0 B1 B2 B3]
  · isplitl [B0]; · iexists _; iexact B0
    isplitl [B1]; · iexists _; iexact B1
    isplitl [B2]; · iexists _; iexact B2
    iexists _; iexact B3
  isplitl [O0 O1 O2 O3]
  · isplitl [O0]; · iexact O0
    isplitl [O1]; · iexact O1
    isplitl [O2]; · iexact O2
    iexact O3
  isplitl [F10 F11 F12 F13]
  · isplitl [F10]; · iexact F10
    isplitl [F11]; · iexact F11
    isplitl [F12]; · iexact F12
    iexact F13
  isplitl [F20 F21 F22 F23]
  · isplitl [F20]; · iexact F20
    isplitl [F21]; · iexact F21
    isplitl [F22]; · iexact F22
    iexact F23
  isplitl [F30]; · iexact F30
  isplitl [F31]; · iexact F31
  isplitl [F32]; · iexact F32
  iexact F33

end Body

end Cert.GatherProof

end
-- ==== Proof.Whole.lean ====
/-
The body of the kernel from whole buffers to whole buffers: the pieces `Body` works on are cut from the buffers before
it and put together after it.
-/
module

public import proofs.«01_k».proof.Proof.Body

@[expose] public section

set_option maxRecDepth 16384

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces of a buffer are disjoint and cover it -/

/-- Different slots of four do not meet, -/
theorem slot_disj (t t' : Fin 4) (h : t ≠ t') : Disjoint (slotR t).set (slotR t').set :=
  Rect.unit_disjoint 0 (by
    have := fun e => h (Fin.ext e)
    show t.val + 1 ≤ t'.val ∨ t'.val + 1 ≤ t.val
    omega)
/-- nor do slots of three, -/
theorem wslot_disj (t t' : Fin 3) (h : t ≠ t') : Disjoint (wslotR t).set (wslotR t').set :=
  Rect.unit_disjoint 0 (by
    have := fun e => h (Fin.ext e)
    show t.val + 1 ≤ t'.val ∨ t'.val + 1 ≤ t.val
    omega)
/-- nor blocks of rows, -/
theorem rows_disj (t t' : Fin 4) (h : t ≠ t') : Disjoint (rowsR t).set (rowsR t').set :=
  Rect.unit_disjoint 0 (by
    have := fun e => h (Fin.ext e)
    show 256 * t.val + 256 ≤ 256 * t'.val ∨ 256 * t'.val + 256 ≤ 256 * t.val
    omega)
/-- nor blocks of the result. -/
theorem out_disj (t t' : Fin 4 × Fin 4) (h : t ≠ t') : Disjoint (outR t.1 t.2).set (outR t'.1 t'.2).set := by
  by_cases h1 : t.1 = t'.1
  · exact Rect.unit_disjoint 1 (by
      have : t.2.val ≠ t'.2.val := fun e => h (Prod.ext h1 (Fin.ext e))
      show 256 * t.2.val + 256 ≤ 256 * t'.2.val ∨ 256 * t'.2.val + 256 ≤ 256 * t.2.val
      omega)
  · exact Rect.unit_disjoint 0 (by
      have : t.1.val ≠ t'.1.val := fun e => h1 (Fin.ext e)
      show 256 * t.1.val + 256 ≤ 256 * t'.1.val ∨ 256 * t'.1.val + 256 ≤ 256 * t.1.val
      omega)

/-- A family covers if every place lies in some member. -/
theorem cover_of {T : Type} [Fintype T] [DecidableEq T] {s : Shape} {r : T → Rect s} (h : ∀ i : s.Idx, ∃ t, i ∈ (r t).set) :
    (Finset.univ : Finset T).biUnion (fun t => (r t).set) = Finset.univ :=
  Finset.eq_univ_of_forall fun i => by
    obtain ⟨t, ht⟩ := h i
    exact Finset.mem_biUnion.mpr ⟨t, Finset.mem_univ _, ht⟩

/-- The four slots cover their buffer, -/
theorem slot_cover : (Finset.univ : Finset (Fin 4)).biUnion (fun t => (slotR t).set) = Finset.univ :=
  cover_of fun i => ⟨⟨(i 0).val, (i 0).isLt⟩, Rect.mem_set_unit.mpr fun a => by
    have h1 : (i 1).val < 256 := (i 1).isLt
    have h2 : (i 2).val < 256 := (i 2).isLt
    match a with
    | 0 => exact ⟨Nat.le_refl _, Nat.lt_succ_self _⟩
    | 1 => exact ⟨Nat.zero_le _, by show (i 1).val < 0 + 256; omega⟩
    | 2 => exact ⟨Nat.zero_le _, by show (i 2).val < 0 + 256; omega⟩⟩
/-- the three slots theirs, -/
theorem wslot_cover : (Finset.univ : Finset (Fin 3)).biUnion (fun t => (wslotR t).set) = Finset.univ :=
  cover_of fun i => ⟨⟨(i 0).val, (i 0).isLt⟩, Rect.mem_set_unit.mpr fun a => by
    have h1 : (i 1).val < 256 := (i 1).isLt
    have h2 : (i 2).val < 4096 := (i 2).isLt
    match a with
    | 0 => exact ⟨Nat.le_refl _, Nat.lt_succ_self _⟩
    | 1 => exact ⟨Nat.zero_le _, by show (i 1).val < 0 + 256; omega⟩
    | 2 => exact ⟨Nat.zero_le _, by show (i 2).val < 0 + 4096; omega⟩⟩

set_option backward.proofsInPublic true in
/-- Which of the four blocks of 256 a place among 1024 lies in. -/
def blk (n : Fin 1024) : Fin 4 := ⟨n.val / 256, by have := n.isLt; omega⟩

/-- the four blocks of rows an argument, -/
theorem rows_cover : (Finset.univ : Finset (Fin 4)).biUnion (fun t => (rowsR t).set) = Finset.univ :=
  cover_of fun i => ⟨blk (i 0), Rect.mem_set_unit.mpr fun a => by
    have h0 : (i 0).val < 1024 := (i 0).isLt
    have h1 : (i 1).val < 4096 := (i 1).isLt
    match a with
    | 0 => exact ⟨by show 256 * ((i 0).val / 256) ≤ (i 0).val; omega, by show (i 0).val < 256 * ((i 0).val / 256) + 256; omega⟩
    | 1 => exact ⟨Nat.zero_le _, by show (i 1).val < 0 + 4096; omega⟩⟩
/-- and the sixteen blocks the result. -/
theorem out_cover : (Finset.univ : Finset (Fin 4 × Fin 4)).biUnion (fun t => (outR t.1 t.2).set) = Finset.univ :=
  cover_of fun i => ⟨(blk (i 0), blk (i 1)), Rect.mem_set_unit.mpr fun a => by
    have h0 : (i 0).val < 1024 := (i 0).isLt
    have h1 : (i 1).val < 1024 := (i 1).isLt
    match a with
    | 0 => exact ⟨by show 256 * ((i 0).val / 256) ≤ (i 0).val; omega, by show (i 0).val < 256 * ((i 0).val / 256) + 256; omega⟩
    | 1 => exact ⟨by show 256 * ((i 1).val / 256) ≤ (i 1).val; omega, by show (i 1).val < 256 * ((i 1).val / 256) + 256; omega⟩⟩

/-! ## Cutting and joining at some contents -/

section Any
variable (c : Dev nD) {sp : Space} {s : Shape} {e : EltTy} (M : Memref sig .tc sp s e) {T : Type} [Fintype T] [DecidableEq T]
  (r : T → Rect s) (hr : ∀ t a, (r t).stride a = 1) (hd : ∀ t t', t ≠ t' → Disjoint (r t).set (r t').set)
  (hcov : (Finset.univ : Finset T).biUnion (fun t => (r t).set) = Finset.univ)

include hd hcov

/-- A buffer at some contents is its pieces, each at some contents, -/
theorem any_cut : (iprop(∃ X, owns (c : Thread nD τ) M fullShare X) : sProp 𝕄)
    ⊢ bigSep Finset.univ fun t => iprop(∃ X, owns (c : Thread nD τ) (M.slice (r t) (hr t)) fullShare X) := by
  iintro ⟨%X, H⟩
  iapply (show (owns (c : Thread nD τ) M fullShare X : sProp 𝕄) ⊢ bigSep Finset.univ fun t => iprop(∃ X, owns (c : Thread nD τ) (M.slice (r t) (hr t)) fullShare X) from
    (owns_rects (c : Thread nD τ) M fullShare r hr hd hcov X).trans (bigSep_mono fun t _ => exists_intro (Φ := fun X => owns (c : Thread nD τ) (M.slice (r t) (hr t)) fullShare X) _)) $$ H

/-- and the other way round. -/
theorem any_join : (bigSep Finset.univ fun t => iprop(∃ X, owns (c : Thread nD τ) (M.slice (r t) (hr t)) fullShare X) : sProp 𝕄)
    ⊢ iprop(∃ X, owns (c : Thread nD τ) M fullShare X) := by
  refine (BI.bigSep_exists_pi Finset.univ (fun t X => owns (c : Thread nD τ) (M.slice (r t) (hr t)) fullShare X)).trans ?_
  iintro ⟨%Xs, H⟩
  iexists (Rect.glue r hcov Xs)
  iapply (owns_of_rects (c : Thread nD τ) M fullShare r hr hd hcov (Rect.glue r hcov Xs))
  have hg (t : T) : (fun j => Rect.glue r hcov Xs ((r t).emb j)) = Xs t := funext fun y => Rect.glue_emb r hcov hd Xs t y
  simp only [hg]
  iexact H

end Any

/-! ## The rows of the result in the order the body fills them -/

/-- The device whose rows come at place `j`: the device itself, then its peers in its plane. -/
def near (j : Fin 4) (c : Dev nD) : Dev nD := match j with
  | 0 => c | 1 => peer 1 c | 2 => peer 2 c | 3 => peer 3 c

/-- The four devices of a plane work out the four blocks of rows. -/
def quadE (c : Dev nD) : Fin 4 ≃ Fin 4 := Equiv.ofBijective (fun j => quad (near j c)) (by revert c; decide)

/-- The four block rows, named by the devices of the plane that work them out. -/
theorem four_near (c : Dev nD) (Φ : Fin 4 → sProp 𝕄) :
    bigSep Finset.univ Φ = iprop(Φ (quad c) ∗ Φ (quad (peer 1 c)) ∗ Φ (quad (peer 2 c)) ∗ Φ (quad (peer 3 c))) := by
  rw [bigSep_univ_equiv (quadE c), four]; rfl

/-- A conjunction over three, written out. -/
theorem three (Φ : Fin 3 → sProp 𝕄) : bigSep Finset.univ Φ = iprop(Φ 0 ∗ Φ 1 ∗ Φ 2) :=
  bigSep_univ_eq_bigSepL [0, 1, 2] (by decide) (by decide) Φ

/-- The device of `c`'s plane that works out block row `q`. -/
def inPlane (c : Dev nD) (q : Fin 4) : Dev nD := ⟨4 * (c.val / 4) + q.val, by
  have h : c.val < 8 := c.isLt; have := q.isLt; show _ < 8; omega⟩

/-- The device of the plane at a neighbour's place is that neighbour. -/
theorem inPlane_near (c : Dev nD) (j : Fin 4) : inPlane c (quad (near j c)) = near j c := by revert c j; decide

section Out
variable (m : (ℓ : Loc nD τ sig) → Buf (Elt F) ℓ)

set_option backward.proofsInPublic true in
/-- A place of the result within its block. -/
def within (i : S1024x1024.Idx) : S256x256.Idx
  | 0 => ⟨(i 0).val % 256, Nat.mod_lt _ (by decide)⟩
  | 1 => ⟨(i 1).val % 256, Nat.mod_lt _ (by decide)⟩

/-- The whole result on device `c`: each block as the device of its plane that works it out finishes it. -/
def outAt (c : Dev nD) : S1024x1024.Idx → Elt F .bf16 := fun i => outVal m (inPlane c (blk (i 0))) (blk (i 1)) (within i)

/-- A block of the whole result is the one its device finishes. -/
theorem outAt_block (c : Dev nD) (q k : Fin 4) : (fun i => outAt m c ((outR q k).emb i)) = outVal m (inPlane c q) k := by
  funext i
  have h0 : (i 0).val < 256 := (i 0).isLt
  have h1 : (i 1).val < 256 := (i 1).isLt
  have e0 : (((outR q k).emb i) 0).val = 256 * q.val + 1 * (i 0).val := rfl
  have e1 : (((outR q k).emb i) 1).val = 256 * k.val + 1 * (i 1).val := rfl
  have b0 : blk (((outR q k).emb i) 0) = q := Fin.ext (by show (((outR q k).emb i) 0).val / 256 = _; omega)
  have b1 : blk (((outR q k).emb i) 1) = k := Fin.ext (by show (((outR q k).emb i) 1).val / 256 = _; omega)
  have w : within ((outR q k).emb i) = i := funext fun a => match a with
    | 0 => Fin.ext (by show (((outR q k).emb i) 0).val % 256 = _; omega)
    | 1 => Fin.ext (by show (((outR q k).emb i) 1).val % 256 = _; omega)
  show outVal m (inPlane c (blk _)) (blk _) (within _) = _
  rw [b0, b1, w]

end Out

/-! ## What the launch deals a device, and what the body needs of it -/

/-- The kernel's own semaphores: the four of its local copies, then the send and the receive semaphores towards each peer. -/
def osem : Fin 4 ⊕ ((Fin 4 × Fin 4) ⊕ (Fin 4 × Fin 4)) → SemLoc sig
  | .inl 0 => .dma (cc0_scratch6 : DmaSems sig S_).sem
  | .inl 1 => .dma (wsem 0)
  | .inl 2 => .dma (wsem 1)
  | .inl 3 => .dma (wsem 2)
  | .inr (.inl (j, k)) => .dma (dsem j false k)
  | .inr (.inr (j, k)) => .dma (dsem j true k)

/-- The shared semaphores: the barrier, the send ones and the receive ones. -/
def ciE : Unit ⊕ ((Fin 4 × Fin 4) ⊕ (Fin 4 × Fin 4)) ≃ CI where
  toFun
    | .inl _ => none
    | .inr (.inl (j, k)) => some (j, false, k)
    | .inr (.inr (j, k)) => some (j, true, k)
  invFun
    | none => .inl ()
    | some (j, false, k) => .inr (.inl (j, k))
    | some (j, true, k) => .inr (.inr (j, k))
  left_inv x := by rcases x with _ | ⟨_, _⟩ | ⟨_, _⟩ <;> rfl
  right_inv x := by rcases x with _ | ⟨_, _ | _, _⟩ <;> rfl

/-- A conjunction over the shared semaphores: the barrier, the sends, the receives. -/
theorem ci_split (Φ : CI → sProp 𝕄) : bigSep Finset.univ Φ
    = iprop(Φ none ∗ (bigSep Finset.univ fun j => bigSep Finset.univ fun k => Φ (some (j, false, k)))
      ∗ bigSep Finset.univ fun j => bigSep Finset.univ fun k => Φ (some (j, true, k))) := by
  rw [bigSep_univ_equiv ciE, bigSep_univ_sum, bigSep_univ_sum, bigSep_univ_prod, bigSep_univ_prod]
  congr 1
  exact bigSep_univ_eq_bigSepL [()] (by decide) (by decide) _

section Dealt
variable (m : (ℓ : Loc nD τ sig) → Buf (Elt F) ℓ) (c : Dev nD)

/-- The idle semaphores of the local copies. -/
abbrev idles : sProp 𝕄 := iprop(idle c (cc0_scratch6 : DmaSems sig S_).sem ∗ idle c (wsem 0) ∗ idle c (wsem 1) ∗ idle c (wsem 2))

/-- The semaphores at zero: those of the local copies, those of the sends, those of the receives. -/
theorem own_split : (Pipeline.ownSems0 (Ix := Unit) (Name := ℕ) (U := UU) (Lvl := ℕ) (Val := Elt F) (τ := τ) osem c : sProp 𝕄)
    = iprop(idles c ∗ (bigSep Finset.univ fun j : Fin 4 => bigSep Finset.univ fun k : Fin 4 => done c (some (j, false, k)))
      ∗ bigSep Finset.univ fun j : Fin 4 => bigSep Finset.univ fun k : Fin 4 => done c (some (j, true, k))) := by
  unfold Pipeline.ownSems0
  rw [bigSep_univ_sum, bigSep_univ_sum, bigSep_univ_prod, bigSep_univ_prod, four]
  rfl

/-- The payments a device makes: one on each peer's barrier, one on each of its send semaphores, one on each receive
    semaphore of the peers. -/
def payToks : sProp 𝕄 :=
  iprop((bigSep Finset.univ fun j : Fin 4 => dutyTok ER (kcell (peer j c, none)) 0 j)
    ∗ (bigSep Finset.univ fun j : Fin 4 => bigSep Finset.univ fun k : Fin 4 => dutyTok ER (kcell (c, some (j, false, k))) 0 0)
    ∗ bigSep Finset.univ fun j : Fin 4 => bigSep Finset.univ fun k : Fin 4 => dutyTok ER (kcell (peer j c, some (j, true, k))) 0 0)

/-- The credit a device has for its waits on what its peers pay. -/
def creds : sProp 𝕄 :=
  iprop(cred (tallyAt (kcell (c, none)) () (tot none))
    ∗ bigSep Finset.univ fun j : Fin 4 => bigSep Finset.univ fun k : Fin 4 => cred (tallyAt (kcell (c, some (j, true, k))) () (tot (some (j, true, k)))))

/-- A device's places on its shared semaphores, its payments and its idle semaphores. -/
def ghost : sProp 𝕄 := iprop((bigSep Finset.univ fun i : CI => atPos ER (kcell (c, i)) 0 ∅ 0) ∗ payToks c ∗ idles c)

/-- A device's places, payments to make and credits, regrouped by the transfers they serve. -/
theorem kits : iprop((bigSep Finset.univ fun i : CI => atPos ER (kcell (c, i)) 0 ∅ 0) ∗ payToks c ∗ creds c)
    ⊢ (iprop((bigSep Finset.univ fun j : Fin 4 => dutyTok ER (kcell (peer j c, none)) 0 j) ∗ kitW c none
      ∗ (bigSep Finset.univ fun j : Fin 4 => bigSep Finset.univ fun k : Fin 4 => kitS c j k)
      ∗ bigSep Finset.univ fun j : Fin 4 => bigSep Finset.univ fun k : Fin 4 => kitW c (some (j, true, k))) : sProp 𝕄) := by
  rw [ci_split]
  unfold payToks creds kitS kitW
  simp only [bigSep_sep']
  iintro ⟨⟨A0, A1, A2⟩, ⟨T0, T1, T2⟩, C0, C1⟩
  isplitl [T0]; · iexact T0
  isplitl [A0 C0]; · (isplitl [A0]; · iexact A0); iexact C0
  isplitl [A1 T1 T2]; · (isplitl [T1]; · iexact T1); (isplitl [T2]; · iexact T2); iexact A1
  isplitl [A2]; · iexact A2
  iexact C1

/-! ## The pieces are the buffers -/

/-- What the body starts from, written out. -/
theorem before_eq : before m c
    = iprop((bigSep Finset.univ fun j : Fin 4 => dutyTok ER (kcell (peer j c, none)) 0 j)
      ∗ (bigSep Finset.univ fun j : Fin 4 => pay m (peer j c) none j) ∗ kitW c none
      ∗ (bigSep Finset.univ fun j : Fin 4 => bigSep Finset.univ fun k : Fin 4 => kitS c j k)
      ∗ (bigSep Finset.univ fun j : Fin 4 => bigSep Finset.univ fun k : Fin 4 => kitW c (some (j, true, k)))
      ∗ idles c
      ∗ owns (c : Thread nD τ) (xR (quad c)) fullShare (xRows m c (quad c))
      ∗ (bigSep Finset.univ fun k : Fin 4 => owns (c : Thread nD τ) (yR k) fullShare (yRows m c k))
      ∗ (∃ X, owns (c : Thread nD τ) dyM fullShare X) ∗ (∃ X, owns (c : Thread nD τ) aM fullShare X)
      ∗ (bigSep Finset.univ fun k : Fin 3 => iprop(∃ X, owns (c : Thread nD τ) (wS k) fullShare X))
      ∗ (bigSep Finset.univ fun k : Fin 4 => iprop(∃ X, owns (c : Thread nD τ) (psS k) fullShare X))
      ∗ (bigSep Finset.univ fun k : Fin 4 => iprop(∃ X, owns (c : Thread nD τ) (pbS k) fullShare X))
      ∗ bigSep Finset.univ fun k : Fin 4 => iprop(∃ X, owns (c : Thread nD τ) (oB (quad c) k) fullShare X)) := by
  unfold before
  simp only [four, three]

/-- What the body leaves, written out. -/
theorem after_eq : after m c
    = iprop(owe c []
      ∗ (done c none
        ∗ (bigSep Finset.univ fun j : Fin 4 => bigSep Finset.univ fun k : Fin 4 => done c (some (j, false, k)))
        ∗ (bigSep Finset.univ fun j : Fin 4 => bigSep Finset.univ fun k : Fin 4 => done c (some (j, true, k))))
      ∗ idles c
      ∗ owns (c : Thread nD τ) (xR (quad c)) fullShare (xRows m c (quad c))
      ∗ (bigSep Finset.univ fun k : Fin 4 => owns (c : Thread nD τ) (yR k) fullShare (yRows m c k))
      ∗ (∃ X, owns (c : Thread nD τ) dyM fullShare X) ∗ (∃ X, owns (c : Thread nD τ) aM fullShare X)
      ∗ (bigSep Finset.univ fun k : Fin 3 => iprop(∃ X, owns (c : Thread nD τ) (wS k) fullShare X))
      ∗ (bigSep Finset.univ fun k : Fin 4 => iprop(∃ X, owns (c : Thread nD τ) (psS k) fullShare X))
      ∗ (bigSep Finset.univ fun k : Fin 4 => iprop(∃ X, owns (c : Thread nD τ) (prS k) fullShare X))
      ∗ (bigSep Finset.univ fun k : Fin 4 => iprop(∃ X, owns (c : Thread nD τ) (pbS k) fullShare X))
      ∗ bigSep Finset.univ fun q : Fin 4 => bigSep Finset.univ fun k : Fin 4 =>
          owns (c : Thread nD τ) (oB q k) fullShare (outVal m (inPlane c q) k)) := by
  have e0 : inPlane c (quad c) = c := inPlane_near c 0
  have e1 : inPlane c (quad (peer 1 c)) = peer 1 c := inPlane_near c 1
  have e2 : inPlane c (quad (peer 2 c)) = peer 2 c := inPlane_near c 2
  have e3 : inPlane c (quad (peer 3 c)) = peer 3 c := inPlane_near c 3
  unfold after
  rw [four_near c fun q => bigSep Finset.univ fun k : Fin 4 => owns (c : Thread nD τ) (oB q k) fullShare (outVal m (inPlane c q) k)]
  rw [e0, e1, e2, e3]
  simp only [four, three]

/-- The payment on the barrier of the peer across x is the payer's landing slots, -/
theorem pay_slots {c d : Dev nD} (h : peer 0 d = c) :
    (pay m d none 0 : sProp 𝕄) = bigSep Finset.univ fun k : Fin 4 => iprop(∃ X, owns (c : Thread nD τ) (prS k) fullShare X) := by
  subst h; rfl
/-- on another peer's the payer's rows of the result that the peer works out. -/
theorem pay_rows (j : Fin 4) (hj : j ≠ 0) {c d : Dev nD} (h : peer j d = c) :
    (pay m d none j : sProp 𝕄) = bigSep Finset.univ fun k : Fin 4 => iprop(∃ X, owns (c : Thread nD τ) (oB (quad d) k) fullShare X) := by
  subst h
  match j, hj with
  | 0, hj => exact absurd rfl hj
  | 1, _ => rfl
  | 2, _ => rfl
  | 3, _ => rfl

/-- A device's landing slots and the rows of its result that its peers work out, as the payments it makes on their barriers. -/
theorem pays_of :
    iprop((bigSep Finset.univ fun k : Fin 4 => iprop(∃ X, owns (c : Thread nD τ) (prS k) fullShare X))
      ∗ (bigSep Finset.univ fun k : Fin 4 => iprop(∃ X, owns (c : Thread nD τ) (oB (quad (peer 1 c)) k) fullShare X))
      ∗ (bigSep Finset.univ fun k : Fin 4 => iprop(∃ X, owns (c : Thread nD τ) (oB (quad (peer 2 c)) k) fullShare X))
      ∗ (bigSep Finset.univ fun k : Fin 4 => iprop(∃ X, owns (c : Thread nD τ) (oB (quad (peer 3 c)) k) fullShare X)))
      ⊢ (bigSep Finset.univ fun j : Fin 4 => pay m (peer j c) none j : sProp 𝕄) := by
  rw [four fun j : Fin 4 => pay m (peer j c) none j]
  rw [pay_slots m (peer_peer 0 c), pay_rows m 1 (by decide) (peer_peer 1 c), pay_rows m 2 (by decide) (peer_peer 2 c), pay_rows m 3 (by decide) (peer_peer 3 c)]

/-! ## The body -/

/-- The buffers besides the arguments and the result, at some contents. -/
def scratch : sProp 𝕄 :=
  iprop((∃ X, owns (c : Thread nD τ) dyM fullShare X) ∗ (∃ X, owns (c : Thread nD τ) aM fullShare X) ∗ (∃ X, owns (c : Thread nD τ) wM fullShare X)
    ∗ (∃ X, owns (c : Thread nD τ) psM fullShare X) ∗ (∃ X, owns (c : Thread nD τ) prM fullShare X) ∗ (∃ X, owns (c : Thread nD τ) pbM fullShare X))

/-- Both arguments at what they hold. -/
def args : sProp 𝕄 := iprop(owns (c : Thread nD τ) xM fullShare (xA m c) ∗ owns (c : Thread nD τ) yM fullShare (yA m c))

/-- The rows of the first argument that the body leaves alone. -/
def others : sProp 𝕄 :=
  iprop(owns (c : Thread nD τ) (xR (quad (peer 1 c))) fullShare (xRows m c (quad (peer 1 c)))
    ∗ owns (c : Thread nD τ) (xR (quad (peer 2 c))) fullShare (xRows m c (quad (peer 2 c)))
    ∗ owns (c : Thread nD τ) (xR (quad (peer 3 c))) fullShare (xRows m c (quad (peer 3 c))))

/-- The first argument is the device's rows and the other blocks; -/
theorem x_rows : (owns (c : Thread nD τ) xM fullShare (xA m c) : sProp 𝕄)
    ⊢ iprop(owns (c : Thread nD τ) (xR (quad c)) fullShare (xRows m c (quad c)) ∗ others m c) :=
  (owns_rects (c : Thread nD τ) xM fullShare rowsR (fun _ _ => rfl) rows_disj rows_cover (xA m c)).trans
    (Entails.of_eq (four_near c fun k => owns (c : Thread nD τ) (xR k) fullShare (xRows m c k)))
/-- together they are the argument again. -/
theorem x_whole : iprop(owns (c : Thread nD τ) (xR (quad c)) fullShare (xRows m c (quad c)) ∗ others m c)
    ⊢ (owns (c : Thread nD τ) xM fullShare (xA m c) : sProp 𝕄) :=
  (Entails.of_eq (four_near c fun k => owns (c : Thread nD τ) (xR k) fullShare (xRows m c k)).symm).trans
    (owns_of_rects (c : Thread nD τ) xM fullShare rowsR (fun _ _ => rfl) rows_disj rows_cover (xA m c))

/-- The second argument is its four blocks of rows; -/
theorem y_rows : (owns (c : Thread nD τ) yM fullShare (yA m c) : sProp 𝕄)
    ⊢ bigSep Finset.univ fun k : Fin 4 => owns (c : Thread nD τ) (yR k) fullShare (yRows m c k) :=
  owns_rects (c : Thread nD τ) yM fullShare rowsR (fun _ _ => rfl) rows_disj rows_cover (yA m c)
/-- together they are the argument again. -/
theorem y_whole : (bigSep Finset.univ fun k : Fin 4 => owns (c : Thread nD τ) (yR k) fullShare (yRows m c k))
    ⊢ (owns (c : Thread nD τ) yM fullShare (yA m c) : sProp 𝕄) :=
  owns_of_rects (c : Thread nD τ) yM fullShare rowsR (fun _ _ => rfl) rows_disj rows_cover (yA m c)

/-- The buffer of the result, cut into the device's own blocks and those it will receive. -/
theorem out_cut : (iprop(∃ X, owns (c : Thread nD τ) oM fullShare X) : sProp 𝕄)
    ⊢ iprop((bigSep Finset.univ fun k : Fin 4 => iprop(∃ X, owns (c : Thread nD τ) (oB (quad c) k) fullShare X))
      ∗ (bigSep Finset.univ fun k : Fin 4 => iprop(∃ X, owns (c : Thread nD τ) (oB (quad (peer 1 c)) k) fullShare X))
      ∗ (bigSep Finset.univ fun k : Fin 4 => iprop(∃ X, owns (c : Thread nD τ) (oB (quad (peer 2 c)) k) fullShare X))
      ∗ (bigSep Finset.univ fun k : Fin 4 => iprop(∃ X, owns (c : Thread nD τ) (oB (quad (peer 3 c)) k) fullShare X))) :=
  (any_cut c oM (fun t : Fin 4 × Fin 4 => outR t.1 t.2) (fun _ _ => rfl) out_disj out_cover).trans
    ((Entails.of_eq (bigSep_univ_prod fun t : Fin 4 × Fin 4 => iprop(∃ X, owns (c : Thread nD τ) (oB t.1 t.2) fullShare X))).trans
      (Entails.of_eq (four_near c fun q => bigSep Finset.univ fun k : Fin 4 => iprop(∃ X, owns (c : Thread nD τ) (oB q k) fullShare X))))

/-- The sixteen finished blocks are the whole result. -/
theorem out_join : (bigSep Finset.univ fun q : Fin 4 => bigSep Finset.univ fun k : Fin 4 =>
      owns (c : Thread nD τ) (oB q k) fullShare (outVal m (inPlane c q) k))
    ⊢ (owns (c : Thread nD τ) oM fullShare (outAt m c) : sProp 𝕄) := by
  rw [← bigSep_univ_prod (fun t : Fin 4 × Fin 4 => owns (c : Thread nD τ) (oB t.1 t.2) fullShare (outVal m (inPlane c t.1) t.2))]
  refine BIBase.Entails.trans (bigSep_mono fun t _ => ?_)
    (owns_of_rects (c : Thread nD τ) oM fullShare (fun t : Fin 4 × Fin 4 => outR t.1 t.2) (fun _ _ => rfl) out_disj out_cover (outAt m c))
  exact Entails.of_eq (congrArg (owns (c : Thread nD τ) (oB t.1 t.2) fullShare) (outAt_block m c t.1 t.2).symm)

/-- The three slots of row blocks are their buffer again, -/
theorem w_join : (bigSep Finset.univ fun k : Fin 3 => iprop(∃ X, owns (c : Thread nD τ) (wS k) fullShare X))
    ⊢ (iprop(∃ X, owns (c : Thread nD τ) wM fullShare X) : sProp 𝕄) :=
  any_join c wM wslotR (fun _ _ => rfl) wslot_disj wslot_cover
/-- and so are the slots of the partial products sent, -/
theorem ps_join : (bigSep Finset.univ fun k : Fin 4 => iprop(∃ X, owns (c : Thread nD τ) (psS k) fullShare X))
    ⊢ (iprop(∃ X, owns (c : Thread nD τ) psM fullShare X) : sProp 𝕄) :=
  any_join c psM slotR (fun _ _ => rfl) slot_disj slot_cover
/-- received, -/
theorem pr_join : (bigSep Finset.univ fun k : Fin 4 => iprop(∃ X, owns (c : Thread nD τ) (prS k) fullShare X))
    ⊢ (iprop(∃ X, owns (c : Thread nD τ) prM fullShare X) : sProp 𝕄) :=
  any_join c prM slotR (fun _ _ => rfl) slot_disj slot_cover
/-- and kept. -/
theorem pb_join : (bigSep Finset.univ fun k : Fin 4 => iprop(∃ X, owns (c : Thread nD τ) (pbS k) fullShare X))
    ⊢ (iprop(∃ X, owns (c : Thread nD τ) pbM fullShare X) : sProp 𝕄) :=
  any_join c pbM slotR (fun _ _ => rfl) slot_disj slot_cover

/-- What a device is given, cut into the pieces that the body works on. -/
theorem to_pieces : iprop(ghost c ∗ creds c ∗ args m c ∗ scratch c ∗ ∃ X, owns (c : Thread nD τ) oM fullShare X)
    ⊢ iprop(before m c ∗ others m c) := by
  rw [before_eq]
  unfold ghost args scratch
  iintro ⟨⟨HP, HT, HI⟩, HC, ⟨HX, HY⟩, ⟨HD, HA, HW, HE, HR, HB⟩, HO⟩
  ihave HK := (kits (F := F) c) $$ [HP HT HC]
  · isplitl [HP]; · iexact HP
    isplitl [HT]; · iexact HT
    iexact HC
  icases HK with ⟨HT, HWB, HS, HWR⟩
  ihave HX := (x_rows m c) $$ HX
  icases HX with ⟨HX, HXO⟩
  ihave HO := (out_cut (F := F) c) $$ HO
  icases HO with ⟨HO, H1, H2, H3⟩
  ihave HR := (any_cut c prM slotR (fun _ _ => rfl) slot_disj slot_cover) $$ HR
  isplitr [HXO]
  · isplitl [HT]; · iexact HT
    isplitl [HR H1 H2 H3]
    · iapply (pays_of m c)
      isplitl [HR]; · iexact HR
      isplitl [H1]; · iexact H1
      isplitl [H2]; · iexact H2
      iexact H3
    isplitl [HWB]; · iexact HWB
    isplitl [HS]; · iexact HS
    isplitl [HWR]; · iexact HWR
    isplitl [HI]; · iexact HI
    isplitl [HX]; · iexact HX
    isplitl [HY]; · iapply (y_rows m c) $$ HY
    isplitl [HD]; · iexact HD
    isplitl [HA]; · iexact HA
    isplitl [HW]; · iapply (any_cut c wM wslotR (fun _ _ => rfl) wslot_disj wslot_cover) $$ HW
    isplitl [HE]; · iapply (any_cut c psM slotR (fun _ _ => rfl) slot_disj slot_cover) $$ HE
    isplitl [HB]; · iapply (any_cut c pbM slotR (fun _ _ => rfl) slot_disj slot_cover) $$ HB
    iexact HO
  · iexact HXO

/-- What the body leaves. -/
def left : sProp 𝕄 :=
  iprop(done c none ∗ Pipeline.ownSems0 osem c ∗ args m c ∗ scratch c)

/-- What the body leaves, joined to whole buffers. -/
theorem of_pieces : iprop(after m c ∗ others m c)
    ⊢ iprop(owe c [] ∗ left m c ∗ owns (c : Thread nD τ) oM fullShare (outAt m c)) := by
  rw [after_eq]
  unfold left args scratch
  rw [own_split]
  iintro ⟨⟨HO, ⟨HN, HS, HV⟩, HI, HX, HY, HD, HA, HW, HE, HR, HB, HQ⟩, HXO⟩
  isplitl [HO]; · iexact HO
  isplitr [HQ]
  · isplitl [HN]; · iexact HN
    isplitl [HI HS HV]
    · isplitl [HI]; · iexact HI
      isplitl [HS]; · iexact HS
      iexact HV
    isplitl [HX HXO HY]
    · isplitl [HX HXO]
      · iapply (x_whole m c)
        isplitl [HX]; · iexact HX
        iexact HXO
      · iapply (y_whole m c) $$ HY
    isplitl [HD]; · iexact HD
    isplitl [HA]; · iexact HA
    isplitl [HW]; · iapply (w_join (F := F) c) $$ HW
    isplitl [HE]; · iapply (ps_join (F := F) c) $$ HE
    isplitl [HR]; · iapply (pr_join (F := F) c) $$ HR
    iapply (pb_join (F := F) c) $$ HB
  · iapply (out_join m c) $$ HQ

/-- What holds beside a run may be used at its end. -/
theorem wpc_frame {α : Type} {p : Prog (TpuEff nD τ sig (Elt F) Λ₀ .tc) α} {Q Q' : α → sProp 𝕄} {R : sProp 𝕄}
    (h : ∀ a, iprop(Q a ∗ R) ⊢ Q' a) : iprop(wpc c p Q ∗ R) ⊢ wpc c p Q' :=
  (wp_frame_r frame (wpE (defs₀ (F := F)) 𝒱₀ (c : Thread nD τ) none) Set.univ).trans
    (wp_mono frame (wpE (defs₀ (F := F)) 𝒱₀ (c : Thread nD τ) none) Set.univ h)

/-- The body at device `c`, from whole buffers to whole buffers: it leaves the arguments as they were, every semaphore at
    zero, nothing owed and the whole result. -/
theorem body_whole (K : Dev nD × CI → ℕ) :
    recs m K ⊢ iprop(owe c (pays.drop 0) -∗ (ghost c ∗ creds c ∗ args m c ∗ scratch c ∗ ∃ X, owns (c : Thread nD τ) oM fullShare X)
      -∗ wpc (F := F) c (cc0_body (Memref.whole main_arg0) (Memref.isWhole_whole _) (Memref.whole main_arg1) (Memref.isWhole_whole _)
      (Memref.whole cc0_stg0_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 cc0_scratch12 cc0_scratch13
      cc0_scratch14 cc0_scratch15) (fun _ => iprop(owe c [] ∗ left m c ∗ owns (c : Thread nD τ) oM fullShare (outAt m c)))) := by
  iintro #HR HO HB
  ihave HB := (to_pieces m c) $$ HB
  icases HB with ⟨HB, HX⟩
  ihave HW := (body_pieces m K c) $$ HR
  ihave HW := HW $$ HO
  ihave HW := HW $$ HB
  iapply (wpc_frame c (Q := fun _ => after m c) (R := others m c) fun _ => of_pieces m c)
  isplitl [HW]; · iexact HW
  iexact HX

end Dealt

end Cert.GatherProof

end
-- ==== Proof.Launch.lean ====
/-
The launch: the shared semaphores' schedule is set up for all devices at once, each device receives its places, the
payments it is to make and the credit for its waits, and every device runs the body. The run of the whole mesh follows.
-/
module

public import proofs.«01_k».proof.Proof.Whole
public import Idealize.ShloMosaic.Lib.Pipeline.ValueKit
public import Idealize.ShloMosaic.Lib.Pipeline.CollectiveSegs

@[expose] public section

set_option maxRecDepth 16384

noncomputable section

namespace Cert.GatherProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told of the body -/

/-- What a device starts from besides its scratch buffers. -/
def start (c : Dev nD) : sProp 𝕄 := iprop((∃ K, recs m K ∗ ghost c) ∗ creds c ∗ args m c)

/-- Before the one point: that and the scratch buffers; after it: what the body leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => iprop(start m c ∗ scratch c)
    | ⟨_ + 1, _⟩ => left m c
  q _ := fullShare
  owed t := match t with
    | ⟨0, _⟩ => oweL c (pays.drop 0)
    | ⟨_ + 1, _⟩ => 0

/-- What the pipeline says a device owes, as a list of payments, -/
theorem owe_of (c : Dev nD) (t : Fin (cfg0.N + 1)) {xs : List (Fin 4 × CI)} (h : (dats m ρ 0 c).owed t = oweL c xs) :
    (dats m ρ 0 c).owesAt () t ⊢ (owe c xs : sProp 𝕄) := by
  unfold Dat.owesAt Pipeline.owesWithin owe
  rw [h]
  iintro ⟨%W, -, H⟩
  iexists W
  iexact H

/-- and back. -/
theorem of_owe (c : Dev nD) (t : Fin (cfg0.N + 1)) {xs : List (Fin 4 × CI)} (h : (dats m ρ 0 c).owed t = oweL c xs) :
    (owe c xs : sProp 𝕄) ⊢ (dats m ρ 0 c).owesAt () t := by
  unfold Dat.owesAt Pipeline.owesWithin owe
  rw [h]
  iintro ⟨%W, H⟩
  iexists W
  isplitr; · ipureintro; exact fun _ _ => Or.inl trivial
  iexact H

set_option maxHeartbeats 800000 in
/-- The body meets what the pipeline is told of it. -/
theorem body_obligation (c : Dev nD) : BodyObligation (dats (F := F) m ρ 0 c) (defs₀ (F := F)) 𝒱₀ () Set.univ := fun t => by
  rw [fin_N0 t]
  rw [bigSep_W0, bigSep_W0]
  show iprop((start m c ∗ scratch c) ∗ (dats m ρ 0 c).owesAt () t0_0.castSucc
      ∗ ∃ d, owns (c : Thread nD τ) oM fullShare ((dats m ρ 0 c).before (0 : Fin 1) t0_0 d))
    ⊢ wpc (F := F) c (cc0_body (Memref.whole main_arg0) (Memref.isWhole_whole _) (Memref.whole main_arg1) (Memref.isWhole_whole _)
      (Memref.whole cc0_stg0_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11 cc0_scratch12 cc0_scratch13
      cc0_scratch14 cc0_scratch15)
      (fun _ => iprop(left m c ∗ (dats m ρ 0 c).owesAt () t0_0.succ ∗ owns (c : Thread nD τ) oM fullShare (outAt m c)))
  unfold start
  iintro ⟨⟨⟨⟨%K, #HR, HG⟩, HC, HA⟩, HS⟩, HO, %d, HD⟩
  ihave HO := (owe_of m ρ c t0_0.castSucc (xs := pays.drop 0) rfl) $$ HO
  ihave HW := (body_whole m c K) $$ HR
  ihave HW := HW $$ HO
  ihave HW := HW $$ [HG HC HA HS HD]
  · isplitl [HG]; · iexact HG
    isplitl [HC]; · iexact HC
    isplitl [HA]; · iexact HA
    isplitl [HS]; · iexact HS
    iexists ((dats m ρ 0 c).before (0 : Fin 1) t0_0 d)
    iexact HD
  iapply (wpc_frame c (R := iprop(emp)) (Q := fun _ => iprop(owe c [] ∗ left m c ∗ owns (c : Thread nD τ) oM fullShare (outAt m c))) fun _ => by
    iintro ⟨⟨HO, HL, HQ⟩, -⟩
    isplitl [HL]; · iexact HL
    isplitl [HO]; · iapply (of_owe m ρ c t0_0.succ (xs := []) rfl) $$ HO
    iexact HQ)
  isplitl [HW]; · iexact HW
  iempintro

/-! ## The schedule set up -/

/-- The body's own semaphores are scoped, distinct and none of the pipeline's. -/
theorem ownSemFacts : Pipeline.OwnSemFacts cfg0.spec osem where
  isScoped := by decide +kernel
  inj := by decide +kernel
  disj := by decide +kernel

/-- Every window's array is held whole. -/
theorem share_eq (c : Dev nD) (w : Fin cfg0.W) : (dats m ρ 0 c).share w = fullShare := by unfold Dat.share; split <;> rfl

/-- All shared semaphores of all devices. -/
def cells : Finset (GSem nD τ sig) := Finset.univ.map ⟨kcell, kcell_inj⟩

/-- Which payment: one of the four on a device's barrier, or the one on a send or on a receive semaphore. -/
abbrev TI : Type := Fin 4 ⊕ ((Fin 4 × Fin 4) ⊕ (Fin 4 × Fin 4))
/-- The semaphore and the payer that a payment's index names. -/
def tokI : TI → CI × Fin 4
  | .inl d => (none, d)
  | .inr (.inl (j, k)) => (some (j, false, k), 0)
  | .inr (.inr (j, k)) => (some (j, true, k), 0)
/-- Different indices name different payments. -/
theorem tokI_inj : Function.Injective tokI := by decide +kernel
/-- A payment of a device's round as the schedule names it. -/
def tokOf (ci : Dev nD × TI) : GSem nD τ sig × ℕ × Fin 4 := (kcell (ci.1, (tokI ci.2).1), 0, (tokI ci.2).2)
/-- Different payments have different names. -/
theorem tokOf_inj : Function.Injective tokOf := by
  rintro ⟨c, i⟩ ⟨c', i'⟩ h
  have h1 := kcell_inj (congrArg Prod.fst h)
  have h2 : (tokI i).2 = (tokI i').2 := congrArg (fun x : GSem nD τ sig × ℕ × Fin 4 => x.2.2) h
  have h3 : i = i' := tokI_inj (Prod.ext (congrArg Prod.snd h1) h2)
  rw [show c = c' from congrArg Prod.fst h1, h3]
/-- All payments of all devices. -/
def allToks : Finset (GSem nD τ sig × ℕ × Fin 4) := Finset.univ.map ⟨tokOf, tokOf_inj⟩

/-- The ghost state at launch. -/
def u₀ : UU := (initOf (Pipeline.cells cfgs cellOf_inj) (Pipeline.launchToks cfgs cellOf_inj), (initOf cells allToks, 1))

/-- The payments on a device's own shared semaphores. -/
def toks (c : Dev nD) : sProp 𝕄 :=
  iprop((bigSep Finset.univ fun j : Fin 4 => dutyTok ER (kcell (c, none)) 0 j)
    ∗ (bigSep Finset.univ fun j : Fin 4 => bigSep Finset.univ fun k : Fin 4 => dutyTok ER (kcell (c, some (j, false, k))) 0 0)
    ∗ bigSep Finset.univ fun j : Fin 4 => bigSep Finset.univ fun k : Fin 4 => dutyTok ER (kcell (c, some (j, true, k))) 0 0)

/-- What a device is given of it: its semaphores' rounds, its places and the payments to its semaphores. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)

/-- All the shared records. -/
def invs (K : Dev nD × CI → ℕ) : sProp 𝕄 :=
  iprop((bigSep Finset.univ fun ci : Dev nD × CI => cellInv ER (Rd m) (K ci) (kcell ci))
    ∗ bigSep Finset.univ fun ci : Dev nD × CI => reached ER (kcell ci) 0)
/-- They may be used again and again. -/
instance invs_persistent (K : Dev nD × CI → ℕ) : BI.Persistent (invs m K) := by unfold invs; infer_instance

/-- What a device starts with once the schedule is set up. -/
def G' (c : Dev nD) : sProp 𝕄 := iprop(∃ K, invs m K ∗ ghost c)

/-- The launch element is the pipeline's part and the devices' part. -/
theorem u₀_split : (ownU u₀ : sProp 𝕄)
    ⊢ iprop(BI.own (EP (initOf (Pipeline.cells cfgs cellOf_inj) (Pipeline.launchToks cfgs cellOf_inj))) ∗ BI.own (ER (initOf cells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells allToks, (1 : Counters)))))

/-- The ghost state at launch is every device's part. -/
theorem fund_all : BI.own (ER (initOf cells allToks)) ⊢ (|==> bigSep Finset.univ (G m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum, bigSep_univ_prod, bigSep_univ_prod]; rfl
  iintro HX
  imod (Rounds.fund ER (Rd m) cells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- The barrier is the launch's one semaphore that no kernel scopes. -/
theorem unscoped_eq (c : Dev nD) : (unscopedSems0 c : sProp 𝕄) = done c none := by
  unfold unscopedSems0; rw [bigSep_eq_bigSepL_of_eq [SemLoc.reg barS] (by decide +kernel) (by decide)]; rfl

/-- A device's semaphores at zero: the shared ones and the rest. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ idles c) : sProp 𝕄) := by
  rw [own_split, unscoped_eq, ci_split]
  iintro ⟨⟨HI, HS, HR⟩, HB⟩
  isplitr [HI]
  · isplitl [HB]; · iexact HB
    isplitl [HS]; · iexact HS
    iexact HR
  · iexact HI

/-- On one device, each shared semaphore at zero becomes an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ idles c) := by
  unfold G
  iintro ⟨Hos, Hus, Hst, Hat, Htok⟩
  ihave Hv := (sems_split (F := F) c) $$ [Hos Hus]
  · isplitl [Hos]; · iexact Hos
    iexact Hus
  icases Hv with ⟨Hv, HI⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact HI

/-- Peers change places: what is indexed by a device and a direction may be taken at the peer across that direction. -/
def swapE : Dev nD × Fin 4 ≃ Dev nD × Fin 4 where
  toFun x := (peer x.2 x.1, x.2)
  invFun x := (peer x.2 x.1, x.2)
  left_inv x := Prod.ext (peer_peer x.2 x.1) rfl
  right_inv x := Prod.ext (peer_peer x.2 x.1) rfl

/-- A family over devices and directions, re-indexed by the peers: what each device holds for its peers is what each device gets from them. -/
theorem swap_all (Φ : Dev nD → Fin 4 → sProp 𝕄) :
    (bigSep Finset.univ fun c : Dev nD => bigSep Finset.univ fun j : Fin 4 => Φ c j)
      = bigSep Finset.univ fun c : Dev nD => bigSep Finset.univ fun j : Fin 4 => Φ (peer j c) j := by
  rw [← bigSep_univ_prod (fun x : Dev nD × Fin 4 => Φ x.1 x.2), ← bigSep_univ_prod (fun x : Dev nD × Fin 4 => Φ (peer x.2 x.1) x.2),
    bigSep_univ_equiv swapE]
  rfl

/-- Every payment goes to the device that makes it. -/
theorem toks_around : (bigSep Finset.univ fun c : Dev nD => (toks c : sProp 𝕄)) = bigSep Finset.univ fun c : Dev nD => payToks c := by
  unfold toks payToks
  rw [bigSep_sep', bigSep_sep', bigSep_sep', bigSep_sep', swap_all fun c j => dutyTok ER (kcell (c, none)) 0 j,
    swap_all fun c j => bigSep Finset.univ fun k : Fin 4 => dutyTok ER (kcell (c, some (j, true, k))) 0 0]

/-- A fact that may be used again serves every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The payments, handed from the devices that receive them to the devices that make them. -/
theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ idles c) : sProp 𝕄)
      ⊢ bigSep Finset.univ (G' m) := by
  rw [bigSep_sep', bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_around]
  iintro ⟨HI, ⟨Hat, #HR⟩, Htok, Hid⟩
  ihave HK := (BI.bigSep_exists_pi Finset.univ (fun (ci : Dev nD × CI) (κ : ℕ) => (cellInv ER (Rd m) κ (kcell ci) : sProp 𝕄))) $$ HI
  icases HK with ⟨%K, #HI⟩
  iapply (with_persistent (R := invs m K) (Φ := fun c => ghost c) fun c _ => show iprop(invs m K ∗ ghost c) ⊢ G' m c from by
    unfold G'
    iintro ⟨H1, H2⟩
    iexists K
    isplitl [H1]; · iexact H1
    iexact H2)
  isplitr
  · unfold invs; isplitl; · iexact HI
    iexact HR
  · unfold ghost
    simp only [bigSep_sep']
    isplitl [Hat]; · iexact Hat
    isplitl [Htok]; · iexact Htok
    iexact Hid

/-- All devices' semaphores are shared out under the schedule at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit for the waits -/

/-- All that the devices together owe on a shared semaphore: its unit for each payment of the list that names it. -/
theorem owed_sum (c : Dev nD) (i : CI) (xs : List (Fin 4 × CI)) :
    ∑ d : Dev nD, oweL d xs (kcell (c, i)) () = xs.countP (fun x => decide (x.2 = i)) * amt i := by
  induction xs with
  | nil => exact (Finset.sum_eq_zero fun d _ => rfl).trans (Nat.zero_mul _).symm
  | cons x xs ih =>
    have h1 (d : Dev nD) : oweL d (x :: xs) (kcell (c, i)) ()
        = oweL d xs (kcell (c, i)) () + if d = peer x.1 c then (if x.2 = i then amt i else 0) else 0 := by
      show (oweL d xs + tallyAt (kcell (peer x.1 d, x.2)) () (amt x.2)) (kcell (c, i)) () = _
      rw [Pi.add_apply, Finsupp.add_apply, tallyAt_apply]
      congr 1
      by_cases hd : d = peer x.1 c
      · rw [if_pos hd]
        by_cases hi : x.2 = i
        · rw [if_pos hi, if_pos ⟨by rw [hd, peer_peer, hi], rfl⟩, hi]
        · rw [if_neg hi, if_neg fun h => hi (congrArg Prod.snd (kcell_inj h.1)).symm]
      · rw [if_neg hd, if_neg fun h => hd (by
          have := congrArg Prod.fst (kcell_inj h.1)
          have e : c = peer x.1 d := this
          rw [e, peer_peer])]
    rw [Finset.sum_congr rfl fun d _ => h1 d, Finset.sum_add_distrib, ih, Finset.sum_ite_eq' Finset.univ (peer x.1 c), if_pos (Finset.mem_univ _),
      List.countP_cons]
    by_cases hi : x.2 = i
    · rw [if_pos hi, if_pos (decide_eq_true hi), Nat.add_mul, Nat.one_mul]
    · rw [if_neg hi, if_neg (fun h => hi (of_decide_eq_true h)), Nat.add_zero, Nat.add_zero]

/-- A device signals the barriers of four peers, -/
theorem count_bar : pays.countP (fun x => decide (x.2 = none)) = 4 := by decide
/-- and pays once into every receiving semaphore. -/
theorem count_recv : ∀ j k : Fin 4, pays.countP (fun x => decide (x.2 = some (j, true, k))) = 1 := by decide +kernel

/-- The credit at launch for a semaphore is what its round's payments make together. -/
theorem launch_at (c : Dev nD) (i : CI) (h : pays.countP (fun x => decide (x.2 = i)) * amt i = tot i) :
    tallyOn (kcell (c, i)) (launchCredit (Pipeline.owing fun d => oweL d (pays.drop 0)) 0 (kcell (c, i))) = (tallyAt (kcell (c, i)) () (tot i) : CellTallies nD τ sig Unit) := by
  unfold tallyAt; refine congrArg _ (Finsupp.ext fun u => ?_); cases u
  rw [Pipeline.launchCredit_owing, Finsupp.single_eq_same, List.drop_zero, owed_sum, h]

/-- So every device has the credit for its waits. -/
theorem creds_intro (c : Dev nD) :
    (Pipeline.launchCred (fun d => oweL d (pays.drop 0)) c : sProp 𝕄) ⊢ creds c := by
  unfold Pipeline.launchCred
  refine (bigSep_subset (Finset.subset_univ (Finset.univ.map ⟨csem, csem_inj⟩))).trans ?_
  rw [bigSep_map, ci_split]
  unfold creds
  exact sep_mono (Entails.of_eq (congrArg cred (launch_at c none (by rw [count_bar]; rfl))))
    (sep_and.trans (and_elimR.trans (bigSep_mono fun j _ => bigSep_mono fun k _ =>
      Entails.of_eq (congrArg cred (launch_at c (some (j, true, k)) (by rw [count_recv, Nat.one_mul]; rfl))))))

/-! ## The launch theorem's side conditions -/

/-- The arguments as the two whole buffers of memory. -/
theorem args_eq (c : Dev nD) : (args m c : sProp 𝕄)
    = iprop((((c : Thread nD τ).loc main_arg0) ↦{fullShare} m ((c : Thread nD τ).loc main_arg0)) ∗ (((c : Thread nD τ).loc main_arg1) ↦{fullShare} m ((c : Thread nD τ).loc main_arg1))) := by
  unfold args xA yA
  rw [owns_whole, owns_whole]

/-- The scratch buffers are those that no window uses. -/
theorem scratch_eq (c : Dev nD) : (scratch c : sProp 𝕄) = Pipeline.scopedRest cfg0.spec c := by
  rw [show (Pipeline.scopedRest cfg0.spec c : sProp 𝕄) = _ from scopedRest0_eq c]
  unfold scratch
  simp only [owns_whole]
  rfl

/-- What a device starts from, out of what the launch hands it. -/
theorem start_intro (c : Dev nD) :
    iprop(Pipeline.unscopedRestP Pipeline.Prefetch.none cfg0.spec c (fun b => m ((c : Thread nD τ).loc b)) ∗ levAts L lv
        ∗ Pipeline.launchCred (fun d => oweL d (pays.drop 0)) c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄) = args m c from
    (Pipeline.unscopedRestP_eq_of_list cfg0.spec c Pipeline.Prefetch.none (fun b => m ((c : Thread nD τ).loc b)) [main_arg0, main_arg1]
      (by decide) (by decide)).trans (args_eq m c).symm]
  unfold G' start
  iintro ⟨HA, #Hlev, Hcr, -, ⟨%K, HI, HG⟩⟩
  ihave Hc := (creds_intro (F := F) c) $$ Hcr
  imodintro
  isplitl
  · isplitl [HI HG]
    · iexists K
      isplitl [HI]
      · unfold invs recs
        icases HI with ⟨H1, H2⟩
        isplitl [H1]; · iexact H1
        isplitl [H2]; · iexact H2
        iexact Hlev
      iexact HG
    isplitl [Hc]; · iexact Hc
    iexact HA
  · iempintro

/-- The state before the one point, -/
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs]; · iexact Hs
  iexact Hr

/-- and what is left of it after that point. -/
theorem phi_out (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = left m c from rfl, unscoped_eq, ← scratch_eq]
  unfold left
  iintro ⟨HB, HO, HA, HS⟩
  isplitl [HB HA]
  · isplitl [HB]; · iexact HB
    iexact HA
  isplitl [HO]; · iexact HO
  iexact HS

/-- The pipeline's own copies complete on no shared semaphore. -/
theorem stage_own (w : Fin cfg0.W) (s : Fin (cfg0.win w).nbuf) (i : CI) : csem i ≠ .dma ((cfg0.win w).sem s) := by
  have hv : ((cfg0.win w).sem s).val = 0 := by revert w s; decide +kernel
  rcases i with _ | ⟨j, r, k⟩
  · exact fun h => by cases h
  · intro h
    have h' := congrArg Fin.val (SemLoc.dma.inj h)
    rw [dsem_val, hv] at h'
    omega

/-- The pipeline's own waits are at a level below everything that is owed. -/
theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () = 0 := by
      unfold lv; rw [which_none (stage_own w s)]
    rcases t with ⟨_ | _, ht⟩
    · exact mayWait_lt c _ 0 hlv (pays.drop 0) (by decide)
    · exact mayWait_lt c _ 0 hlv [] (by decide)

/-- At the end the counters read zero and the arguments are as they were. -/
theorem read_back (c : Dev nD) (s' : Phys nD τ sig (Elt F)) :
    iprop((unscopedSems0 c ∗ args m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') : sProp 𝕄) := by
  rw [args_eq]
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, Buf.eq_of_forall_mem_univ h0, Buf.eq_of_forall_mem_univ h1⟩
  · iexact HSI

/-! ## The run -/

/-- The result array of device `c` at the end. -/
def finalA (c : Dev nD) (w : Fin cfg0.W) : Buf (Elt F) ((cfg0.win w).arr.view.loc (c : Thread nD τ)) := (dats m ρ 0 c).arrAt w cfg0.N

/-- What the run leaves: on every device the result array as worked out and both arguments as they were. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)

/-- At the mesh of eight devices, for any float values and from any memory with all counters at zero: every weakly fair
    execution ends, and ends with every device's result as worked out, the arguments unchanged and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := fun d => oweL d (pays.drop 0)) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => iprop(unscopedSems0 c ∗ args m c)) (Z := fun _ => iprop(emp))
    (hX := start_intro m ρ) (hin := phi_in m ρ) (hout := phi_out m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := read_back m)
    (hQ := fun _ h hs => ⟨fun c => ⟨(h c).1, (h c).2.2.2⟩, sem_eq_zero hs fun c => (h c).2.2.1⟩)

end Cert.GatherProof

end
-- ==== Proof.Value.lean ====
/-
The value of the result over the extended reals: every block a device holds is the block of the reference's product.
-/
module

public import proofs.«01_k».proof.Proof.Launch
public import proofs.«01_k».proof.Proof.Gen.ReferenceIdeal.Run
public import Idealize.ShloMosaic.Lib.Pointwise
public import Idealize.ShloMosaic.Lib.Layout

@[expose] public section

set_option maxRecDepth 16384

noncomputable section

namespace Cert.GatherProof

open Cert.KernelIdeal Cert.KernelIdeal.Gen
open Idealize.ShloMosaic Idealize.ShloMosaic.TcCoe
open Idealize.SL.Sem

/-! ## The result array -/

section Array
variable {F : FTy → Type} [FloatOps F] (m : (ℓ : Loc nD τ sig) → Buf (Elt F) ℓ) (ρ : Dev nD → PrngReg)

/-- The one grid point writes the whole result array, so at the end the array is what that point leaves. -/
theorem finalA_eq (c : Dev nD) : finalA m ρ c 0 = outAt m c := by
  unfold finalA
  refine (dats m ρ 0 c).arrAt_eq_of_after_last 0 t0_0 (by decide +kernel) _ fun j => ?_
  blk_simp
  rfl
end Array

/-! ## One block over the extended reals -/

/-- Rounding the rows changes nothing over the reals. -/
theorem pay1_at (x : Vec Ideal S256x4096 .f32) (r : Fin 256) (k : Fin 4096) : k0_pay1 (F := Ideal) x (ix2 r k) = x (ix2 r k) := by
  pointwise [k0_pay1]

/-- A chunk's partial product kept in bfloat16: rows of `a` against rows of `w`. -/
theorem pay4_at (a : Vec Ideal S256x4096 .bf16) (w : Vec Ideal S1x256x4096 .f32) (r s : Fin 256) :
    k0_pay4 (F := Ideal) a w (ix3 0 r s) = ∑ k : Fin 4096, a (ix2 r k) * w (ix3 0 s k) := by
  pointwise [k0_pay4, k0_pay2]

/-- The same partial product in the eight-bit form that goes to the other device. -/
theorem pay3_at (a : Vec Ideal S256x4096 .bf16) (w : Vec Ideal S1x256x4096 .f32) (r s : Fin 256) :
    k0_pay3 (F := Ideal) a w (ix3 0 r s) = ∑ k : Fin 4096, a (ix2 r k) * w (ix3 0 s k) := by
  pointwise [k0_pay3, k0_pay2]

/-- A finished block is the sum of the two partial products. -/
theorem pay9_at (p : Vec Ideal S1x256x256 .bf16) (q : Vec Ideal S1x256x256 .fp8e4m3) (r s : Fin 256) :
    k0_pay9 (F := Ideal) p q (ix2 r s) = p (ix3 0 r s) + q (ix3 0 r s) := by
  pointwise [k0_pay9]

/-- The reference's result at an index. -/
theorem ref_at (X Y : FVec Ideal Cert.ReferenceIdeal.S1024x8192 .f32) (r s : Fin 1024) :
    (truncf (F := Ideal) .bf16 (Host.dotGeneral Cert.ReferenceIdeal.dot_S1024x8192_S8192x1024_S1024x1024_1_0_0_1_n_n none X
      (transpose Cert.ReferenceIdeal.S8192x1024 [1, 0] Y Cert.ReferenceIdeal.Gen.transposes_S1024x8192_S8192x1024_1_0))
      Cert.ReferenceIdeal.Gen.bitsLt_bf16_f32 : FVec Ideal Cert.ReferenceIdeal.S1024x1024 .bf16) (ix2 r s)
      = ∑ k : Fin 8192, X (ix2 r k) * Y (ix2 s k) := by
  pointwise

/-! ## The whole result -/

section Whole
variable (m : (ℓ : Loc nD τ sig) → Buf (Elt Ideal) ℓ)

/-- Row `a` of the `q`-th 256 rows. -/
def row (q : Fin 4) (a : Fin 256) : Fin 1024 := ⟨256 * q.val + a.val, by have := q.isLt; have := a.isLt; omega⟩

/-- A row is the one at its place in its block. -/
theorem row_blk (r : Fin 1024) : row (blk r) ⟨r.val % 256, Nat.mod_lt _ (by decide)⟩ = r :=
  Fin.ext (by show 256 * (r.val / 256) + r.val % 256 = r.val; omega)

/-- An element of a block of rows, in the whole argument. -/
theorem rowsR_at (q : Fin 4) (a : Fin 256) (k : Fin 4096) : (rowsR q).emb (ix2 a k) = ix2 (row q a) k :=
  funext fun i => Fin.ext (match i with
    | 0 => by show 256 * q.val + 1 * a.val = 256 * q.val + a.val; omega
    | 1 => by show 0 + 1 * k.val = k.val; omega)

/-- An element of the device's rows. -/
theorem aVal_at (c : Dev nD) (a : Fin 256) (k : Fin 4096) : aVal m c (ix2 a k) = xA m c (ix2 (row (quad c) a) k) := by
  unfold aVal
  rw [pay1_at]
  exact congrArg (xA m c) (rowsR_at (quad c) a k)

/-- An element of a row block of the second argument. -/
theorem wVal_at (c : Dev nD) (q : Fin 4) (b : Fin 256) (k : Fin 4096) : wVal m c q (ix3 0 b k) = yA m c (ix2 (row q b) k) := by
  have h : wVal m c q (ix3 0 b k) = yRows m c q (ix2 b k) := by
    show shapeCast S1x256x4096 (yRows m c q : FVec Ideal S256x4096 .f32) (by decide) (ix3 0 b k) = _
    pointwise
  rw [h]
  exact congrArg (yA m c) (rowsR_at q b k)

/-- The product of row `r` of the first argument and row `s` of the second, over the columns device `c` holds. -/
def part (c : Dev nD) (r s : Fin 1024) : EReal := ∑ k : Fin 4096, xA m c (ix2 r k) * yA m c (ix2 s k)

/-- An element of a kept partial product, -/
theorem pbVal_at (c : Dev nD) (q : Fin 4) (a b : Fin 256) : pbVal m c q (ix3 0 a b) = part m c (row (quad c) a) (row q b) := by
  unfold pbVal part
  rw [pay4_at]
  exact Finset.sum_congr rfl fun k _ => by rw [aVal_at, wVal_at]

/-- and of one that is sent. -/
theorem psVal_at (c : Dev nD) (q : Fin 4) (a b : Fin 256) : psVal m c q (ix3 0 a b) = part m c (row (quad c) a) (row q b) := by
  unfold psVal part
  rw [pay3_at]
  exact Finset.sum_congr rfl fun k _ => by rw [aVal_at, wVal_at]

/-- The device at place `q` of the plane has place `q`. -/
theorem quad_inPlane (c : Dev nD) (q : Fin 4) : quad (inPlane c q) = q := by revert c q; decide
/-- The peer across x works out the same rows. -/
theorem quad_peer (c : Dev nD) : quad (peer 0 c) = quad c := by revert c; decide

/-- An element of the result: the partial product of the device that works its block out, and that of its peer across
    the contracted axis. -/
theorem outAt_at (c : Dev nD) (r s : Fin 1024) :
    outAt m c (ix2 r s) = part m (inPlane c (blk r)) r s + part m (peer 0 (inPlane c (blk r))) r s := by
  have hw : within (ix2 r s) = ix2 ⟨r.val % 256, Nat.mod_lt _ (by decide)⟩ ⟨s.val % 256, Nat.mod_lt _ (by decide)⟩ := by idx_ext
  show outVal m (inPlane c (blk r)) (blk s) (within (ix2 r s)) = _
  rw [hw]
  unfold outVal
  rw [pay9_at, pbVal_at, psVal_at, quad_peer, quad_inPlane, row_blk, row_blk]

/-- Half `h` of the columns of an argument of the reference. -/
def col (h : Fin 2) (k : Fin 4096) : Fin 8192 := ⟨4096 * h.val + k.val, by have := h.isLt; have := k.isLt; omega⟩

/-- The half of the columns a device holds. -/
def side (c : Dev nD) : Fin 2 := ⟨c.val / 4, by have : c.val < 8 := c.isLt; omega⟩

/-- The devices of a plane hold the same half. -/
theorem side_inPlane (c : Dev nD) (q : Fin 4) : side (inPlane c q) = side c := by revert c q; decide
/-- The peer across x holds the other half. -/
theorem side_peer (c : Dev nD) : side (peer 0 c) = 1 - side c := by revert c; decide

/-- An element of the half that a device holds. -/
theorem block_at (X : Cert.ReferenceIdeal.S1024x8192.Idx → EReal) (c : Dev nD) (r : Fin 1024) (k : Fin 4096) :
    (Layout.blockN ⟨2, ![1024, 4096]⟩ ⟨2, ![1024, 8192]⟩ (Layout.meshBlock [2, 2, 2] ![[], [0]] c) X) (ix2 r k)
      = X (ix2 r (col (side c) k)) := by
  have hm : ((Layout.meshBlock [2, 2, 2] ![[], [0]] c) (1 : Fin 2)).val = (side c).val := by revert c; decide
  have h0 : ((Layout.meshBlock [2, 2, 2] ![[], [0]] c) (0 : Fin 2)).val = 0 := by revert c; decide
  refine congrArg X (funext fun a => Fin.ext ?_)
  match a with
  | 0 =>
    show ((Layout.meshBlock [2, 2, 2] ![[], [0]] c) (0 : Fin 2)).val * 1024 + r.val = r.val
    rw [h0]; omega
  | 1 =>
    show ((Layout.meshBlock [2, 2, 2] ![[], [0]] c) (1 : Fin 2)).val * 4096 + k.val = 4096 * (side c).val + k.val
    rw [hm]; omega

/-- When the devices hold the halves of two arrays, every device ends with the whole product of the first and the
    transposed second. -/
theorem outAt_eq (X Y : Cert.ReferenceIdeal.S1024x8192.Idx → EReal)
    (hX : ∀ c, xA m c = Layout.blockN ⟨2, ![1024, 4096]⟩ ⟨2, ![1024, 8192]⟩ (Layout.meshBlock [2, 2, 2] ![[], [0]] c) X)
    (hY : ∀ c, yA m c = Layout.blockN ⟨2, ![1024, 4096]⟩ ⟨2, ![1024, 8192]⟩ (Layout.meshBlock [2, 2, 2] ![[], [0]] c) Y)
    (c : Dev nD) (r s : Fin 1024) : outAt m c (ix2 r s) = ∑ k : Fin 8192, X (ix2 r k) * Y (ix2 s k) := by
  have hp : ∀ d, part m d r s = ∑ k : Fin 4096, X (ix2 r (col (side d) k)) * Y (ix2 s (col (side d) k)) := fun d =>
    Finset.sum_congr rfl fun k _ => by rw [hX, hY, block_at, block_at]
  have hsum : ∑ k : Fin 8192, X (ix2 r k) * Y (ix2 s k)
      = (∑ k : Fin 4096, X (ix2 r (col 0 k)) * Y (ix2 s (col 0 k))) + ∑ k : Fin 4096, X (ix2 r (col 1 k)) * Y (ix2 s (col 1 k)) := by
    rw [Fin.sum_univ_two_halves 4096 4096 rfl]
    refine congrArg₂ (· + ·) (Finset.sum_congr rfl fun k _ => ?_) (Finset.sum_congr rfl fun k _ => ?_)
    · have e : (⟨k.val, by have := k.isLt; omega⟩ : Fin 8192) = col 0 k := Fin.ext (by show k.val = 4096 * 0 + k.val; omega)
      rw [e]
    · rfl
  rw [outAt_at, hp, hp, side_peer, side_inPlane, hsum]
  have h2 : side c = 0 ∨ side c = 1 := by revert c; decide
  rcases h2 with h | h <;> rw [h]
  · rfl
  · exact add_comm _ _

end Whole

end Cert.GatherProof

end
-- ==== Proof.lean ====
/-
The proof of `Cert.Claim`: the kernel at bit patterns and over the extended reals ends without a fault, with its
arguments unchanged and every counter at zero; the reference does too; and over the extended reals every device's
result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

section Bodies
variable {F : FTy → Type} [FloatOps F]

/-- The two printings of the kernel have the same body table, -/
theorem bodies_eq : Cert.Kernel.defs₀ (F := F) = Cert.KernelIdeal.defs₀ (F := F) :=
  congrArg Defs.onTc (funext fun l => funext fun ts => match l, ts with
    | 0, (_, _) => rfl
    | ⟨_ + 1, h⟩, _ => absurd h (Nat.not_lt.2 (Nat.le_add_left _ _)))

/-- and so the same table of regions. -/
theorem tables_eq : Cert.Kernel.defs (F := F) = Cert.KernelIdeal.defs (F := F) :=
  congrArg (Pipeline.defs Cert.KernelIdeal.pcfgs) bodies_eq

end Bodies

/-- The kernel at bit patterns: the run of its mesh with the result's contents dropped. -/
theorem frame_kernel : Cert.quiescent_Kernel := fun m ρ _ => by
  have h := (θ_run (Cert.KernelIdeal.defs (F := Bits)) _ _).mono (Q' := fun r => (∀ c : Dev Cert.KernelIdeal.nD,
      r.2.mem ((c.tc : Thread Cert.KernelIdeal.nD Cert.KernelIdeal.τ).loc Cert.KernelIdeal.main_arg0) = m (c.tc.loc main_arg0)
      ∧ r.2.mem ((c.tc : Thread Cert.KernelIdeal.nD Cert.KernelIdeal.τ).loc Cert.KernelIdeal.main_arg1) = m (c.tc.loc main_arg1))
      ∧ r.2.sem = fun _ => 0) (fun _ h => ⟨fun c => (h.1 c).2, h.2⟩) (Cert.GatherProof.run_main (F := Bits) m ρ)
  rw [tables_eq]
  exact h

/-- The same over the extended reals. -/
theorem frame_kernelIdeal : Cert.quiescent_KernelIdeal := fun m ρ _ =>
  (θ_run Cert.KernelIdeal.defs _ _).mono (fun _ h => ⟨fun c => (h.1 c).2, h.2⟩) (Cert.GatherProof.run_main (F := Ideal) m ρ)

/-- The reference, a program without semaphores. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals every device ends with the whole of `dy · Wᵀ`, which is what the reference's one device
    ends with. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨((h.1 c).1 0).trans ?_, (h.1 c).2⟩)
    (Cert.GatherProof.run_main (F := Ideal) m ρ)
  rw [Cert.GatherProof.finalA_eq]
  funext i
  rw [eq_ix2 i]
  exact (Cert.GatherProof.outAt_eq m _ _ (fun d => (hagree d).1) (fun d => (hagree d).2) c (i 0) (i 1)).trans
    (Cert.GatherProof.ref_at _ _ (i 0) (i 1)).symm

/-- All the claims, after the facts that the printed programs state. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
